-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_scale_in_range [hPre_scale_in_range : Cert.Pre_scale_in_range.Facts] (m : (ℓ : Loc Cert.NormIdeal.nD Cert.NormIdeal.τ Cert.NormIdeal.sig) → Buf (Elt Ideal) ℓ) : Prop :=
  ∀ c : Dev Cert.NormIdeal.nD,
    (Cert.Pre_scale_in_range.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1))) = (fun _ => 1#1)

def Pre_NormReferenceIdeal (m : (ℓ : Loc Cert.NormReferenceIdeal.nD Cert.NormReferenceIdeal.τ Cert.NormReferenceIdeal.sig) → Buf (Elt Ideal) ℓ) : Prop :=
  True

def Pre_NormReferenceIdeal_scale_in_range [hPre_scale_in_range : Cert.Pre_scale_in_range.Facts] (m : (ℓ : Loc Cert.NormReferenceIdeal.nD Cert.NormReferenceIdeal.τ Cert.NormReferenceIdeal.sig) → Buf (Elt Ideal) ℓ) : Prop :=
  ∀ c : Dev Cert.NormReferenceIdeal.nD,
    (Cert.Pre_scale_in_range.fn (F := Ideal) (m ((c.tc : Thread Cert.NormReferenceIdeal.nD Cert.NormReferenceIdeal.τ).loc Cert.NormReferenceIdeal.main_arg0)) (m ((c.tc : Thread Cert.NormReferenceIdeal.nD Cert.NormReferenceIdeal.τ).loc Cert.NormReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormIdeal_pre_scale_in_range [hNormIdeal : Cert.NormIdeal.Facts] [hPre_scale_in_range : Cert.Pre_scale_in_range.Facts] : Prop :=
  ∀ (m : (ℓ : Loc Cert.NormIdeal.nD Cert.NormIdeal.τ Cert.NormIdeal.sig) → Buf (Elt Ideal) ℓ) (g : Dev Cert.NormIdeal.nD → PrngReg), Pre_NormIdeal_scale_in_range m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_NormReferenceIdeal_pre_scale_in_range [hNormReferenceIdeal : Cert.NormReferenceIdeal.Facts] [hPre_scale_in_range : Cert.Pre_scale_in_range.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal_scale_in_range m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Norm_NormIdeal : Prop :=
  True

def algebraic_NormIdeal_NormReferenceIdeal_pre_scale_in_range [hNormIdeal : Cert.NormIdeal.Facts] [hNormReferenceIdeal : Cert.NormReferenceIdeal.Facts] [hPre_scale_in_range : Cert.Pre_scale_in_range.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal_scale_in_range m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1_0)) (v1 : (c : Dev Cert.NormIdeal.nD) → Buf (Elt Ideal) ((c.tc : Thread Cert.NormIdeal.nD Cert.NormIdeal.τ).loc Cert.NormIdeal.main_v1_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1_0) = v0 c
          ∧ r.2.mem ((c.tc : Thread Cert.NormIdeal.nD Cert.NormIdeal.τ).loc Cert.NormIdeal.main_v1_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v37_0) = v0 c
          ∧ r.2.mem ((c.tc : Thread Cert.NormReferenceIdeal.nD Cert.NormReferenceIdeal.τ).loc Cert.NormReferenceIdeal.main_v37_1) = v1 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def Claim : Prop :=
  ∃ (hKernel : Cert.Kernel.Facts) (hKernelIdeal : Cert.KernelIdeal.Facts) (hReferenceIdeal : Cert.ReferenceIdeal.Facts) (hNorm : Cert.Norm.Facts) (hNormIdeal : Cert.NormIdeal.Facts) (hNormReferenceIdeal : Cert.NormReferenceIdeal.Facts) (hPre_scale_in_range : Cert.Pre_scale_in_range.Facts),
    quiescent_Kernel (hKernel := hKernel)
    ∧ quiescent_KernelIdeal (hKernelIdeal := hKernelIdeal)
    ∧ quiescent_ReferenceIdeal (hReferenceIdeal := hReferenceIdeal)
    ∧ quiescent_Norm (hNorm := hNorm)
    ∧ quiescent_NormIdeal (hNormIdeal := hNormIdeal)
    ∧ quiescent_NormIdeal_pre_scale_in_range (hNormIdeal := hNormIdeal) (hPre_scale_in_range := hPre_scale_in_range)
    ∧ quiescent_NormReferenceIdeal (hNormReferenceIdeal := hNormReferenceIdeal)
    ∧ quiescent_NormReferenceIdeal_pre_scale_in_range (hNormReferenceIdeal := hNormReferenceIdeal) (hPre_scale_in_range := hPre_scale_in_range)
    ∧ preserves_Kernel_KernelIdeal
    ∧ algebraic_KernelIdeal_ReferenceIdeal (hKernelIdeal := hKernelIdeal) (hReferenceIdeal := hReferenceIdeal)
    ∧ preserves_Norm_NormIdeal
    ∧ algebraic_NormIdeal_NormReferenceIdeal_pre_scale_in_range (hNormIdeal := hNormIdeal) (hNormReferenceIdeal := hNormReferenceIdeal) (hPre_scale_in_range := hPre_scale_in_range)
-- ==== Pre_scale_in_range.lean ====
abbrev S8192x19072 : Shape := ⟨2, ![8192, 19072]⟩
abbrev S19072 : Shape := ⟨1, ![19072]⟩
abbrev S_ : Shape := ⟨0, ![]⟩
abbrev S8192 : Shape := ⟨1, ![8192]⟩
abbrev S8192x1 : Shape := ⟨2, ![8192, 1]⟩
abbrev S1x19072 : Shape := ⟨2, ![1, 19072]⟩

class Facts : Prop where
  bitsLt_bf16_f32 : FTy.bits .bf16 < FTy.bits .f32
  reducesTo_S8192x19072_S8192_d1 : S8192x19072.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x19072_0_1 : S8192x1.BroadcastsInDim S8192x19072 (![0, 1] : Fin 2 → Fin S8192x19072.rank)
  bcast_S19072_S1x19072_1 : S19072.BroadcastsInDim S1x19072 (![1] : Fin 1 → Fin S1x19072.rank)
  bcast_S1x19072_S8192x19072_0_1 : S1x19072.BroadcastsInDim S8192x19072 (![0, 1] : Fin 2 → Fin S8192x19072.rank)

variable [Facts]

def fn_part1 {F : FTy → Type} [FloatOps F] (main_v17 : FVec F S8192x1 .f32) (main_v18 : FVec F S8192x1 .f32) : IVec S8192x1 1 :=
  let main_v19 : FVec F S8192x1 .f32 := mulf main_v17 main_v18
  let main_cst_4 : FVec F S_ .f32 := constant S_ .f32 0x00000000#32
  let main_v20 : FVec F S8192x1 .f32 := broadcastInDim S8192x1 ![] bcast_S_S8192x1 main_cst_4
  let main_v21 : IVec S8192x1 1 := cmpf .oeq main_v19 main_v20
  let main_cst_5 : FVec F S_ .f32 := constant S_ .f32 0x00400000#32
  let main_v22 : FVec F S8192x1 .f32 := broadcastInDim S8192x1 ![] bcast_S_S8192x1 main_cst_5
  let main_v23 : IVec S8192x1 1 := cmpf .oge main_v19 main_v22
  let main_cst_6 : FVec F S_ .f32 := constant S_ .f32 0x7E800000#32
  let main_v24 : FVec F S8192x1 .f32 := broadcastInDim S8192x1 ![] bcast_S_S8192x1 main_cst_6
  let main_v25 : IVec S8192x1 1 := cmpf .olt main_v19 main_v24
  let main_v26 : IVec S8192x1 1 := andi main_v23 main_v25
  let main_v27 : IVec S8192x1 1 := ori main_v21 main_v26
  main_v27

def fn {F : FTy → Type} [FloatOps F] (main_arg0 : FVec F S8192x19072 .bf16) (main_arg1 : FVec F S19072 .bf16) : IVec S8192x1 1 :=
  let main_v0 : FVec F S8192x19072 .f32 := (extf .f32 · bitsLt_bf16_f32) main_arg0
  let main_v1 : FVec F S8192x19072 .f32 := mulf main_v0 main_v0
  let main_cst : FVec F S_ .f32 := constant S_ .f32 0x00000000#32
  let main_v2 : FVec F S8192 .f32 := (fun x v => Host.reduceAdd x v reducesTo_S8192x19072_S8192_d1 h_S_) main_v1 main_cst
  let main_v3 : FVec F S8192x1 .f32 := broadcastInDim S8192x1 ![0] bcast_S8192_S8192x1_0 main_v2
  let main_cst_0 : FVec F S_ .f32 := constant S_ .f32 0x46950000#32
  let main_v4 : FVec F S8192x1 .f32 := broadcastInDim S8192x1 ![] bcast_S_S8192x1 main_cst_0
  let main_v5 : FVec F S8192x1 .f32 := Host.divf main_v3 main_v4
  let main_cst_1 : FVec F S_ .f32 := constant S_ .f32 0x3727C5AC#32
  let main_v6 : FVec F S8192x1 .f32 := broadcastInDim S8192x1 ![] bcast_S_S8192x1 main_cst_1
  let main_v7 : FVec F S8192x1 .f32 := addf main_v5 main_v6
  let main_v8 : FVec F S8192x1 .f32 := Host.rsqrt main_v7
  let main_v9 : FVec F S8192x19072 .f32 := broadcastInDim S8192x19072 ![0, 1] bcast_S8192x1_S8192x19072_0_1 main_v8
  let main_v10 : FVec F S8192x19072 .f32 := mulf main_v0 main_v9
  let main_v11 : FVec F S19072 .f32 := (extf .f32 · bitsLt_bf16_f32) main_arg1
  let main_v12 : FVec F S1x19072 .f32 := broadcastInDim S1x19072 ![1] bcast_S19072_S1x19072_1 main_v11
  let main_v13 : FVec F S8192x19072 .f32 := broadcastInDim S8192x19072 ![0, 1] bcast_S1x19072_S8192x19072_0_1 main_v12
  let main_v14 : FVec F S8192x19072 .f32 := mulf main_v10 main_v13
  let main_v15 : FVec F S8192x19072 .f32 := Host.absf main_v14
  let main_cst_2 : FVec F S_ .f32 := constant S_ .f32 0xFF800000#32
  let main_v16 : FVec F S8192 .f32 := (fun x v => Host.reduce FloatOps.maximumf x v reducesTo_S8192x19072_S8192_d1 h_S_) main_v15 main_cst_2
  let main_v17 : FVec F S8192x1 .f32 := broadcastInDim S8192x1 ![0] bcast_S8192_S8192x1_0 main_v16
  let main_cst_3 : FVec F S_ .f32 := constant S_ .f32 0x3B124925#32
  let main_v18 : FVec F S8192x1 .f32 := broadcastInDim S8192x1 ![] bcast_S_S8192x1 main_cst_3
  fn_part1 (F := F) main_v17 main_v18
-- ==== Kernel.lean ====
abbrev S2x4096x15232 : Shape := ⟨3, ![2, 4096, 15232]⟩
abbrev S2x4096x1 : Shape := ⟨3, ![2, 4096, 1]⟩
abbrev S15232x19072 : Shape := ⟨2, ![15232, 19072]⟩
abbrev S19072 : Shape := ⟨1, ![19072]⟩
abbrev S2x4096x19072 : Shape := ⟨3, ![2, 4096, 19072]⟩
abbrev S8192x15232 : Shape := ⟨2, ![8192, 15232]⟩
abbrev S8192x1 : Shape := ⟨2, ![8192, 1]⟩
abbrev S8192x19072 : Shape := ⟨2, ![8192, 19072]⟩
abbrev S1x19072 : Shape := ⟨2, ![1, 19072]⟩
abbrev S1024x15232 : Shape := ⟨2, ![1024, 15232]⟩
abbrev S1024x1 : Shape := ⟨2, ![1024, 1]⟩
abbrev S15232x512 : Shape := ⟨2, ![15232, 512]⟩
abbrev S1x512 : Shape := ⟨2, ![1, 512]⟩
abbrev S1024x512 : Shape := ⟨2, ![1024, 512]⟩
abbrev S512x15232 : Shape := ⟨2, ![512, 15232]⟩
abbrev S512x512 : Shape := ⟨2, ![512, 512]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S2x4096x15232, .fp8e4m3⟩
  | .hbm, ⟨1, _⟩ => ⟨S2x4096x1, .f32⟩
  | .hbm, ⟨2, _⟩ => ⟨S15232x19072, .fp8e4m3⟩
  | .hbm, ⟨3, _⟩ => ⟨S19072, .f32⟩
  | .hbm, ⟨4, _⟩ => ⟨S2x4096x19072, .bf16⟩
  | .hbm, ⟨5, _⟩ => ⟨S8192x15232, .fp8e4m3⟩
  | .hbm, ⟨6, _⟩ => ⟨S8192x1, .f32⟩
  | .hbm, ⟨7, _⟩ => ⟨S8192x19072, .bf16⟩
  | .hbm, ⟨8, _⟩ => ⟨S1x19072, .f32⟩
  | .hbm, ⟨9, _⟩ => ⟨S8192x19072, .bf16⟩
  | .local _ .vmem, ⟨0, _⟩ => ⟨S1024x15232, .fp8e4m3⟩
  | .local _ .vmem, ⟨1, _⟩ => ⟨S1024x15232, .fp8e4m3⟩
  | .local _ .vmem, ⟨2, _⟩ => ⟨S1024x1, .f32⟩
  | .local _ .vmem, ⟨3, _⟩ => ⟨S1024x1, .f32⟩
  | .local _ .vmem, ⟨4, _⟩ => ⟨S15232x512, .fp8e4m3⟩
  | .local _ .vmem, ⟨5, _⟩ => ⟨S15232x512, .fp8e4m3⟩
  | .local _ .vmem, ⟨6, _⟩ => ⟨S1x512, .f32⟩
  | .local _ .vmem, ⟨7, _⟩ => ⟨S1x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S2x4096x15232, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 38], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x15232 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S15232x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S2x4096x15232 : Shape := ⟨3, ![2, 4096, 15232]⟩
abbrev S2x4096x1 : Shape := ⟨3, ![2, 4096, 1]⟩
abbrev S15232x19072 : Shape := ⟨2, ![15232, 19072]⟩
abbrev S19072 : Shape := ⟨1, ![19072]⟩
abbrev S2x4096x19072 : Shape := ⟨3, ![2, 4096, 19072]⟩
abbrev S8192x15232 : Shape := ⟨2, ![8192, 15232]⟩
abbrev S8192x1 : Shape := ⟨2, ![8192, 1]⟩
abbrev S1x19072 : Shape := ⟨2, ![1, 19072]⟩
abbrev S8192x19072 : Shape := ⟨2, ![8192, 19072]⟩

abbrev nBuf : Space → Nat
  | .hbm => 10
  | .vmem => 6
  | .smem => 0
  | _ => 0

abbrev bufTy : (tb : Table) → Fin (tcTables nBuf tb) → BufTy
  | .hbm, ⟨0, _⟩ => ⟨S2x4096x15232, .fp8e4m3⟩
  | .hbm, ⟨1, _⟩ => ⟨S2x4096x1, .f32⟩
  | .hbm, ⟨2, _⟩ => ⟨S15232x19072, .fp8e4m3⟩
  | .hbm, ⟨3, _⟩ => ⟨S19072, .f32⟩
  | .hbm, ⟨4, _⟩ => ⟨S2x4096x19072, .bf16⟩
  | .hbm, ⟨5, _⟩ => ⟨S8192x15232, .fp8e4m3⟩
  | .hbm, ⟨6, _⟩ => ⟨S8192x1, .f32⟩
  | .hbm, ⟨7, _⟩ => ⟨S1x19072, .f32⟩
  | .hbm, ⟨8, _⟩ => ⟨S8192x19072, .bf16⟩
  | .hbm, ⟨9, _⟩ => ⟨S8192x19072, .bf16⟩
  | .local _ .vmem, ⟨0, _⟩ => ⟨S8192x15232, .fp8e4m3⟩
  | .local _ .vmem, ⟨1, _⟩ => ⟨S8192x1, .f32⟩
  | .local _ .vmem, ⟨2, _⟩ => ⟨S15232x19072, .fp8e4m3⟩
  | .local _ .vmem, ⟨3, _⟩ => ⟨S1x19072, .f32⟩
  | .local _ .vmem, ⟨4, _⟩ => ⟨S8192x19072, .bf16⟩
  | .local _ .vmem, ⟨5, _⟩ => ⟨S8192x19072, .bf16⟩
  | _, _ => ⟨S2x4096x15232, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8192x15232 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S15232x19072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x19072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x19072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x19072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Norm.lean ====
abbrev S8192x19072 : Shape := ⟨2, ![8192, 19072]⟩
abbrev S19072 : Shape := ⟨1, ![19072]⟩
abbrev S1x19072 : Shape := ⟨2, ![1, 19072]⟩
abbrev S8192x1 : Shape := ⟨2, ![8192, 1]⟩
abbrev S128x19072 : Shape := ⟨2, ![128, 19072]⟩
abbrev S128x1 : Shape := ⟨2, ![128, 1]⟩
abbrev S128 : Shape := ⟨1, ![128]⟩

abbrev nBuf : Space → Nat
  | .hbm => 5
  | .vmem => 7
  | .smem => 0
  | _ => 0

abbrev bufTy : (tb : Table) → Fin (tcTables nBuf tb) → BufTy
  | .hbm, ⟨0, _⟩ => ⟨S8192x19072, .bf16⟩
  | .hbm, ⟨1, _⟩ => ⟨S19072, .bf16⟩
  | .hbm, ⟨2, _⟩ => ⟨S1x19072, .bf16⟩
  | .hbm, ⟨3, _⟩ => ⟨S8192x19072, .fp8e4m3⟩
  | .hbm, ⟨4, _⟩ => ⟨S8192x1, .f32⟩
  | .local _ .vmem, ⟨0, _⟩ => ⟨S128x19072, .bf16⟩
  | .local _ .vmem, ⟨1, _⟩ => ⟨S128x19072, .bf16⟩
  | .local _ .vmem, ⟨2, _⟩ => ⟨S1x19072, .bf16⟩
  | .local _ .vmem, ⟨3, _⟩ => ⟨S128x19072, .fp8e4m3⟩
  | .local _ .vmem, ⟨4, _⟩ => ⟨S128x19072, .fp8e4m3⟩
  | .local _ .vmem, ⟨5, _⟩ => ⟨S128x1, .f32⟩
  | .local _ .vmem, ⟨6, _⟩ => ⟨S128x1, .f32⟩
  | _, _ => ⟨S8192x19072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x19072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x19072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x19072 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormReferenceIdeal.lean ====
abbrev S8192x19072 : Shape := ⟨2, ![8192, 19072]⟩
abbrev S19072 : Shape := ⟨1, ![19072]⟩
abbrev S_ : Shape := ⟨0, ![]⟩
abbrev S8192 : Shape := ⟨1, ![8192]⟩
abbrev S8192x1 : Shape := ⟨2, ![8192, 1]⟩
abbrev S1x19072 : Shape := ⟨2, ![1, 19072]⟩

abbrev nBuf : Space → Nat
  | .hbm => 59
  | .vmem => 0
  | .smem => 0
  | _ => 0

abbrev bufTy : (tb : Table) → Fin (tcTables nBuf tb) → BufTy
  | .hbm, ⟨0, _⟩ => ⟨S8192x19072, .bf16⟩
  | .hbm, ⟨1, _⟩ => ⟨S19072, .bf16⟩
  | .hbm, ⟨2, _⟩ => ⟨S8192x19072, .f32⟩
  | .hbm, ⟨3, _⟩ => ⟨S8192x19072, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x19072, .f32⟩
  | .hbm, ⟨15, _⟩ => ⟨S8192x19072, .f32⟩
  | .hbm, ⟨16, _⟩ => ⟨S19072, .f32⟩
  | .hbm, ⟨17, _⟩ => ⟨S1x19072, .f32⟩
  | .hbm, ⟨18, _⟩ => ⟨S8192x19072, .f32⟩
  | .hbm, ⟨19, _⟩ => ⟨S8192x19072, .f32⟩
  | .hbm, ⟨20, _⟩ => ⟨S8192x19072, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .i1⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S8192x1, .f32⟩
  | .hbm, ⟨45, _⟩ => ⟨S8192x1, .f32⟩
  | .hbm, ⟨46, _⟩ => ⟨S8192x19072, .f32⟩
  | .hbm, ⟨47, _⟩ => ⟨S8192x19072, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S8192x19072, .f32⟩
  | .hbm, ⟨52, _⟩ => ⟨S8192x19072, .f32⟩
  | .hbm, ⟨53, _⟩ => ⟨S_, .f32⟩
  | .hbm, ⟨54, _⟩ => ⟨S8192x19072, .f32⟩
  | .hbm, ⟨55, _⟩ => ⟨S8192x19072, .f32⟩
  | .hbm, ⟨56, _⟩ => ⟨S8192x19072, .fp8e4m3⟩
  | .hbm, ⟨57, _⟩ => ⟨S8192x19072, .fp8e4m3⟩
  | .hbm, ⟨58, _⟩ => ⟨S8192x1, .f32⟩
  | _, _ => ⟨S8192x19072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_6 : Ref sig .tc := ⟨.hbm, 36, rfl⟩
abbrev main_v27 : Ref sig .tc := ⟨.hbm, 37, rfl⟩
abbrev main_v28 : Ref sig .tc := ⟨.hbm, 38, rfl⟩
abbrev main_cst_7 : Ref sig .tc := ⟨.hbm, 39, rfl⟩
abbrev main_call0_v0 : Ref sig .tc := ⟨.hbm, 40, rfl⟩
abbrev main_call0_v1 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_8 : Ref sig .tc := ⟨.hbm, 48, rfl⟩
abbrev main_cst_9 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_v35 : Ref sig .tc := ⟨.hbm, 55, rfl⟩
abbrev main_v36 : Ref sig .tc := ⟨.hbm, 56, rfl⟩
abbrev main_v37_0 : Ref sig .tc := ⟨.hbm, 57, rfl⟩
abbrev main_v37_1 : Ref sig .tc := ⟨.hbm, 58, rfl⟩

abbrev nD : Nat := 1
abbrev τ : Topo := Topo.v7x

variable {F : FTy → Type} [FloatOps F]
-- ==== Proof.Project.BitsBody.lean ====
/-
  The body of the projection kernel on its staging buffers, for the program `Kernel` and any float values.

  The body handles the 1024 rows of a block in two halves of 512. Each half multiplies its rows of the activation
  codes by the whole block of weight codes, scales the product by the row's and the column's scale, adds the residual
  and stores the half of the output block. `outBlk` names what the output block then holds, as the two stores over
  the five input blocks; `sound_kernel` is the run of the body.
-/
module

public import proofs.«01_k».proof.Proof.Gen.Kernel.Frame
public import proofs.«01_k».proof.Proof.Gen.Kernel.Skeleton

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses -/

/-- The upper and the lower 512 rows of a block of activation codes. -/
abbrev rX0 : Rect S1024x15232 := Rect.unit (s := S1024x15232) ![0, 0] S512x15232.size inb_S1024x15232_S512x15232_0_0
abbrev rX1 : Rect S1024x15232 := Rect.unit (s := S1024x15232) ![512, 0] S512x15232.size inb_S1024x15232_S512x15232_512_0
/-- The whole block of weight codes. -/
abbrev rW : Rect S15232x512 := Rect.unit (s := S15232x512) ![0, 0] S15232x512.size inb_S15232x512_S15232x512_0_0
/-- The row scales of the two halves. -/
abbrev rXs0 : Rect S1024x1 := Rect.unit (s := S1024x1) ![0, 0] S512x1.size inb_S1024x1_S512x1_0_0
abbrev rXs1 : Rect S1024x1 := Rect.unit (s := S1024x1) ![512, 0] S512x1.size inb_S1024x1_S512x1_512_0
/-- The whole block of column scales. -/
abbrev rWs : Rect S1x512 := Rect.unit (s := S1x512) ![0, 0] S1x512.size inb_S1x512_S1x512_0_0
/-- The upper and the lower 512 rows of a residual block, and of an output block. -/
abbrev rO0 : Rect S1024x512 := Rect.unit (s := S1024x512) ![0, 0] S512x512.size inb_S1024x512_S512x512_0_0
abbrev rO1 : Rect S1024x512 := Rect.unit (s := S1024x512) ![512, 0] S512x512.size inb_S1024x512_S512x512_512_0

/-! ## What the body leaves in the output block -/

/-- The upper half of the output block, from the five input blocks. -/
def upper (x0 : Vec F S1024x15232 .fp8e4m3) (x1 : Vec F S1024x1 .f32) (x2 : Vec F S15232x512 .fp8e4m3) (x3 : Vec F S1x512 .f32)
    (x4 : Vec F S1024x512 .bf16) : Vec F S512x512 .bf16 :=
  k0_pay2 (View.ld x0 rX0) (View.ld x2 rW) (View.ld x1 rXs0) (View.ld x3 rWs) (View.ld x4 rO0)

/-- The lower half of the output block. -/
def lower (x0 : Vec F S1024x15232 .fp8e4m3) (x1 : Vec F S1024x1 .f32) (x2 : Vec F S15232x512 .fp8e4m3) (x3 : Vec F S1x512 .f32)
    (x4 : Vec F S1024x512 .bf16) : Vec F S512x512 .bf16 :=
  k0_pay1 (k0_pay3 (View.ld x0 rX1) (View.ld x2 rW) (View.ld x1 rXs1) (View.ld x3 rWs)) (k0_pay4 (View.ld x4 rO1))

/-- The output block after the body: the two stores as pieces, the later one first. -/
def outBlk (x0 : Vec F S1024x15232 .fp8e4m3) (x1 : Vec F S1024x1 .f32) (x2 : Vec F S15232x512 .fp8e4m3) (x3 : Vec F S1x512 .f32)
    (x4 : Vec F S1024x512 .bf16) : Vec F S1024x512 .bf16 :=
  View.canon [⟨rO1, lower x0 x1 x2 x3 x4⟩, ⟨rO0, upper x0 x1 x2 x3 x4⟩]

/-- The two stores tile the block, so they cover it. -/
theorem cover_out (p1 p0 : Vec F S512x512 .bf16) (y : S1024x512.Idx) :
    ∃ pc ∈ ([⟨rO1, p1⟩, ⟨rO0, p0⟩] : List (View.Piece (Elt F) S1024x512 .bf16)), y ∈ pc.1.set :=
  View.cover_of_tiled [⟨rO1, p1⟩, ⟨rO0, p0⟩] S512x512.size (by rfl) y

/-! ## The body's run -/

set_option maxHeartbeats 1000000 in
/-- The body on whole staging buffers, the inputs' at contents `x0` to `x4` and the output's at anything: it runs to
    the continuation with the inputs as they were and the output at `outBlk`. -/
theorem sound_kernel (c : Dev nD) (E : Set ℕ) (i : grid0.Coords) (arg2 : Memref sig .tc .vmem S1024x15232 .fp8e4m3) (harg2 : arg2.IsWhole)
    (arg3 : Memref sig .tc .vmem S1024x1 .f32) (harg3 : arg3.IsWhole) (arg4 : Memref sig .tc .vmem S15232x512 .fp8e4m3) (harg4 : arg4.IsWhole)
    (arg5 : Memref sig .tc .vmem S1x512 .f32) (harg5 : arg5.IsWhole) (arg6 : Memref sig .tc .vmem S1024x512 .bf16) (harg6 : arg6.IsWhole)
    (arg7 : Memref sig .tc .vmem S1024x512 .bf16) (harg7 : arg7.IsWhole)
    (x0 : Vec F S1024x15232 .fp8e4m3) (x1 : Vec F S1024x1 .f32) (x2 : Vec F S15232x512 .fp8e4m3) (x3 : Vec F S1x512 .f32)
    (x4 : Vec F S1024x512 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outBlk x0 x1 x2 x3 x4)) -∗ K ⟨⟩))
      ⊢ wp frame (wpE (defs₀ (F := F)) Variants.none c none) E
          (cc0_project i arg2 harg2 arg3 harg3 arg4 harg4 arg5 harg5 arg6 harg6 arg7 harg7) K := by
  simp only [cc0_project_eq_skeleton]; unfold cc0_project_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _ _)

/-- The body table's row at point `t`'s slots is the body as the schedule module spells it. -/
theorem defs₀_row (t : Fin cfg0.N) :
    defs₀ (F := F) .tc cfg0.body (cfg0.bodyArgs t (cfg0.slots t)) = bodyAt0 t := by
  unfold defs₀; rw [Defs.onTc_tc]

end Cert.Kernel.Body

end
-- ==== Proof.Project.BitsRun.lean ====
/-
  The frame of the projection kernel at the bits: every execution ends, leaves the five arguments as they were and
  every semaphore counter at zero.

  The last column block reaches past the arrays' 19072 columns, so the tails of the staged weight codes, column scales
  and residuals hold words that nothing names. The product unit's result on bits is not described column by column, so
  the part of the output inside the array is not described there either: the output window is FORGOTTEN (any contents
  do), and the three ragged inputs are stated on the columns inside their arrays.
-/
module

public import proofs.«01_k».proof.Proof.Project.BitsBody

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The forgotten window: the output. -/
abbrev fgt : Fin cfg0.W → Bool
  | ⟨5, _⟩ => true
  | _ => false

/-- A window's staging buffer as a fetch leaves it: the block on the part inside the array, `d` elsewhere. -/
abbrev held (c : Dev nD) (w : Fin cfg0.W) (t : Fin cfg0.N) (d : (cfg0.win w).block.Idx → Elt F (cfg0.win w).elt) :
    (cfg0.win w).block.Idx → Elt F (cfg0.win w).elt :=
  (cfg0.win w).fill (grid0.coords t) d (iblk m c w t)

/-- The proof data: the arrays as the region finds them; every input's buffer holds its block (a ragged one's on the
    part inside the array); nothing is said of the output's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => held m c 2 t fun _ => Classical.arbitrary _
    | ⟨3, _⟩ => held m c 3 t fun _ => Classical.arbitrary _
    | ⟨4, _⟩ => held m c 4 t fun _ => Classical.arbitrary _
    | ⟨5, _⟩ => fun _ => Classical.arbitrary _
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = held m c 2 t fun _ => Classical.arbitrary _ := by dsimp only [dats]
theorem after_3 (c : Dev nD) (t : Fin cfg0.N) : (dats m 0 c).after 3 t = held m c 3 t fun _ => Classical.arbitrary _ := by dsimp only [dats]
theorem after_4 (c : Dev nD) (t : Fin cfg0.N) : (dats m 0 c).after 4 t = held m c 4 t fun _ => Classical.arbitrary _ := by dsimp only [dats]

/-- What the body finds: the first two windows' blocks, fetched there or not, -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
/-- and the three ragged windows' buffers as this point's fetch leaves them. -/
theorem before_2 (c : Dev nD) (t : Fin cfg0.N) (d) : (dats m 0 c).before 2 t d = held m c 2 t d := by
  rw [Pipeline.Dat.before_fetched _ _ _ (fetch0_2 t)]; unfold Dat.fetched Dat.blockOf held iblk; rw [A_eq]
theorem before_3 (c : Dev nD) (t : Fin cfg0.N) (d) : (dats m 0 c).before 3 t d = held m c 3 t d := by
  rw [Pipeline.Dat.before_fetched _ _ _ (fetch0_3 t)]; unfold Dat.fetched Dat.blockOf held iblk; rw [A_eq]
theorem before_4 (c : Dev nD) (t : Fin cfg0.N) (d) : (dats m 0 c).before 4 t d = held m c 4 t d := by
  rw [Pipeline.Dat.before_fetched _ _ _ (fetch0_4 t)]; unfold Dat.fetched Dat.blockOf held iblk; rw [A_eq]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ X, owns (c : Thread nD τ) (st0_5 t) fullShare X))

/-- and what it returns: a ragged window's buffer stated on the part inside the array. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare ((cfg0.win 2).fill (grid0.coords t) d ((cfg0.win 2).cut (grid0.coords t) ((dats m 0 c).after 2 t))))
    ∗ (∃ d, owns (c : Thread nD τ) (st0_3 t) fullShare ((cfg0.win 3).fill (grid0.coords t) d ((cfg0.win 3).cut (grid0.coords t) ((dats m 0 c).after 3 t))))
    ∗ (∃ d, owns (c : Thread nD τ) (st0_4 t) fullShare ((cfg0.win 4).fill (grid0.coords t) d ((cfg0.win 4).cut (grid0.coords t) ((dats m 0 c).after 4 t))))
    ∗ (∃ X, owns (c : Thread nD τ) (st0_5 t) fullShare X))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, Window.cut_fill, Window.cut_fill, Window.cut_fill]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (held m c 2 t d2) (held m c 3 t d3) (held m c 4 t d4) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexists d2; iexact H2
  isplitl [H3]; · iexists d3; iexact H3
  isplitl [H4]; · iexists d4; iexact H4
  iexists _; iexact H5

/-- The library's body obligation, the output forgotten. -/
theorem body_obligation (c : Dev nD) :
    BodyObligationLoose (dats (F := F) m 0 c) (defs₀ (F := F)) Variants.none () Set.univ fgt := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every execution ends, with the inputs' arrays as the region found them and every counter at zero. -/
theorem run_main : θ_run defs (onTc (τ := τ) (main (F := F))) (s₀ m ρ)
    (fun r => RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame claim's statement, for any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
      ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (h.1.arr_in c 2 rfl).trans ((A_eq m c 2).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩)
    (run_main m ρ)

end Cert.Kernel.Body

end
-- ==== Proof.Project.IdealBody.lean ====
/-
  The body of the projection kernel on its staging buffers, for the program `KernelIdeal` and any float values.

  The body handles the 1024 rows of a block in two halves of 512. Each half multiplies its rows of the activation
  codes by the whole block of weight codes, scales the product by the row's and the column's scale, adds the residual
  and stores the half of the output block. `outBlk` names what the output block then holds, as the two stores over
  the five input blocks; `sound_kernel` is the run of the body.
-/
module

public import proofs.«01_k».proof.Proof.Gen.KernelIdeal.Frame
public import proofs.«01_k».proof.Proof.Gen.KernelIdeal.Skeleton

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses -/

/-- The upper and the lower 512 rows of a block of activation codes. -/
abbrev rX0 : Rect S1024x15232 := Rect.unit (s := S1024x15232) ![0, 0] S512x15232.size inb_S1024x15232_S512x15232_0_0
abbrev rX1 : Rect S1024x15232 := Rect.unit (s := S1024x15232) ![512, 0] S512x15232.size inb_S1024x15232_S512x15232_512_0
/-- The whole block of weight codes. -/
abbrev rW : Rect S15232x512 := Rect.unit (s := S15232x512) ![0, 0] S15232x512.size inb_S15232x512_S15232x512_0_0
/-- The row scales of the two halves. -/
abbrev rXs0 : Rect S1024x1 := Rect.unit (s := S1024x1) ![0, 0] S512x1.size inb_S1024x1_S512x1_0_0
abbrev rXs1 : Rect S1024x1 := Rect.unit (s := S1024x1) ![512, 0] S512x1.size inb_S1024x1_S512x1_512_0
/-- The whole block of column scales. -/
abbrev rWs : Rect S1x512 := Rect.unit (s := S1x512) ![0, 0] S1x512.size inb_S1x512_S1x512_0_0
/-- The upper and the lower 512 rows of a residual block, and of an output block. -/
abbrev rO0 : Rect S1024x512 := Rect.unit (s := S1024x512) ![0, 0] S512x512.size inb_S1024x512_S512x512_0_0
abbrev rO1 : Rect S1024x512 := Rect.unit (s := S1024x512) ![512, 0] S512x512.size inb_S1024x512_S512x512_512_0

/-! ## What the body leaves in the output block -/

/-- The upper half of the output block, from the five input blocks. -/
def upper (x0 : Vec F S1024x15232 .fp8e4m3) (x1 : Vec F S1024x1 .f32) (x2 : Vec F S15232x512 .fp8e4m3) (x3 : Vec F S1x512 .f32)
    (x4 : Vec F S1024x512 .bf16) : Vec F S512x512 .bf16 :=
  k0_pay2 (View.ld x0 rX0) (View.ld x2 rW) (View.ld x1 rXs0) (View.ld x3 rWs) (View.ld x4 rO0)

/-- The lower half of the output block. -/
def lower (x0 : Vec F S1024x15232 .fp8e4m3) (x1 : Vec F S1024x1 .f32) (x2 : Vec F S15232x512 .fp8e4m3) (x3 : Vec F S1x512 .f32)
    (x4 : Vec F S1024x512 .bf16) : Vec F S512x512 .bf16 :=
  k0_pay1 (k0_pay3 (View.ld x0 rX1) (View.ld x2 rW) (View.ld x1 rXs1) (View.ld x3 rWs)) (k0_pay4 (View.ld x4 rO1))

/-- The output block after the body: the two stores as pieces, the later one first. -/
def outBlk (x0 : Vec F S1024x15232 .fp8e4m3) (x1 : Vec F S1024x1 .f32) (x2 : Vec F S15232x512 .fp8e4m3) (x3 : Vec F S1x512 .f32)
    (x4 : Vec F S1024x512 .bf16) : Vec F S1024x512 .bf16 :=
  View.canon [⟨rO1, lower x0 x1 x2 x3 x4⟩, ⟨rO0, upper x0 x1 x2 x3 x4⟩]

/-- The two stores tile the block, so they cover it. -/
theorem cover_out (p1 p0 : Vec F S512x512 .bf16) (y : S1024x512.Idx) :
    ∃ pc ∈ ([⟨rO1, p1⟩, ⟨rO0, p0⟩] : List (View.Piece (Elt F) S1024x512 .bf16)), y ∈ pc.1.set :=
  View.cover_of_tiled [⟨rO1, p1⟩, ⟨rO0, p0⟩] S512x512.size (by rfl) y

/-! ## The body's run -/

set_option maxHeartbeats 1000000 in
/-- The body on whole staging buffers, the inputs' at contents `x0` to `x4` and the output's at anything: it runs to
    the continuation with the inputs as they were and the output at `outBlk`. -/
theorem sound_kernel (c : Dev nD) (E : Set ℕ) (i : grid0.Coords) (arg2 : Memref sig .tc .vmem S1024x15232 .fp8e4m3) (harg2 : arg2.IsWhole)
    (arg3 : Memref sig .tc .vmem S1024x1 .f32) (harg3 : arg3.IsWhole) (arg4 : Memref sig .tc .vmem S15232x512 .fp8e4m3) (harg4 : arg4.IsWhole)
    (arg5 : Memref sig .tc .vmem S1x512 .f32) (harg5 : arg5.IsWhole) (arg6 : Memref sig .tc .vmem S1024x512 .bf16) (harg6 : arg6.IsWhole)
    (arg7 : Memref sig .tc .vmem S1024x512 .bf16) (harg7 : arg7.IsWhole)
    (x0 : Vec F S1024x15232 .fp8e4m3) (x1 : Vec F S1024x1 .f32) (x2 : Vec F S15232x512 .fp8e4m3) (x3 : Vec F S1x512 .f32)
    (x4 : Vec F S1024x512 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outBlk x0 x1 x2 x3 x4)) -∗ K ⟨⟩))
      ⊢ wp frame (wpE (defs₀ (F := F)) Variants.none c none) E
          (cc0_project i arg2 harg2 arg3 harg3 arg4 harg4 arg5 harg5 arg6 harg6 arg7 harg7) K := by
  simp only [cc0_project_eq_skeleton]; unfold cc0_project_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _ _)

/-- The body table's row at point `t`'s slots is the body as the schedule module spells it. -/
theorem defs₀_row (t : Fin cfg0.N) :
    defs₀ (F := F) .tc cfg0.body (cfg0.bodyArgs t (cfg0.slots t)) = bodyAt0 t := by
  unfold defs₀; rw [Defs.onTc_tc]

end Cert.KernelIdeal.Body

end
-- ==== Proof.Project.Value.lean ====
/-
  The projection in closed form over the reals, at any sizes:

      h[r, n] = residual[r, n] + (Σ_k x[r, k] · w[k, n]) · x_scale[r] · w_scale[n].

  `proj` is that function of the five arrays; `tile_eq` says that the operations the kernel's tiles (and the
  reference's one body) are made of compute it.
-/
module

public import Idealize.ShloMosaic.Lib.MatmulPlain
public import Idealize.ShloMosaic.Lib.ValueIdx
public import Idealize.ShloMosaic.Lib.ValueIdxCoords
public import Idealize.ShloMosaic.Lib.Pipeline.Value

@[expose] public section

noncomputable section

open scoped BigOperators

namespace Cert.Project

open Idealize.ShloMosaic Idealize.ShloMosaic.ValueIdx

variable {M K N : ℕ}

/-- The projection plus the residual, element by element. -/
def proj (X : FVec Ideal ⟨2, ![M, K]⟩ .fp8e4m3) (S : FVec Ideal ⟨2, ![M, 1]⟩ .f32) (W : FVec Ideal ⟨2, ![K, N]⟩ .fp8e4m3)
    (T : FVec Ideal ⟨2, ![1, N]⟩ .f32) (R : FVec Ideal ⟨2, ![M, N]⟩ .bf16) : FVec Ideal ⟨2, ![M, N]⟩ .bf16 := fun i =>
  R i + (Ideal.ofBits .f32 0#32 + ∑ k : Fin K, X (ix2 (i 0) k) * W (ix2 k (i 1))) * S (ix2 (i 0) 0) * T (ix2 0 (i 1))

/-- The two projections agree at two indices where the rows, columns, scales and residuals they read agree. -/
theorem proj_congr {M' N' : ℕ} {X : FVec Ideal ⟨2, ![M, K]⟩ .fp8e4m3} {S : FVec Ideal ⟨2, ![M, 1]⟩ .f32}
    {W : FVec Ideal ⟨2, ![K, N]⟩ .fp8e4m3} {T : FVec Ideal ⟨2, ![1, N]⟩ .f32} {R : FVec Ideal ⟨2, ![M, N]⟩ .bf16}
    {X' : FVec Ideal ⟨2, ![M', K]⟩ .fp8e4m3} {S' : FVec Ideal ⟨2, ![M', 1]⟩ .f32} {W' : FVec Ideal ⟨2, ![K, N']⟩ .fp8e4m3}
    {T' : FVec Ideal ⟨2, ![1, N']⟩ .f32} {R' : FVec Ideal ⟨2, ![M', N']⟩ .bf16}
    (i : (⟨2, ![M, N]⟩ : Shape).Idx) (i' : (⟨2, ![M', N']⟩ : Shape).Idx)
    (hX : ∀ k, X (ix2 (i 0) k) = X' (ix2 (i' 0) k)) (hS : S (ix2 (i 0) 0) = S' (ix2 (i' 0) 0))
    (hW : ∀ k, W (ix2 k (i 1)) = W' (ix2 k (i' 1))) (hT : T (ix2 0 (i 1)) = T' (ix2 0 (i' 1))) (hR : R i = R' i') :
    proj X S W T R i = proj X' S' W' T' R' i' := by
  unfold proj
  rw [hS, hT, hR, Finset.sum_congr rfl fun k _ => by rw [hX k, hW k]]

/-- The operations of one tile: the product into a zero accumulator, the two scales broadcast and multiplied in, the
    residual widened and added, the sum narrowed. Over the reals that is `proj`. -/
theorem tile_eq (X : FVec Ideal ⟨2, ![M, K]⟩ .fp8e4m3) (S : FVec Ideal ⟨2, ![M, 1]⟩ .f32) (W : FVec Ideal ⟨2, ![K, N]⟩ .fp8e4m3)
    (T : FVec Ideal ⟨2, ![1, N]⟩ .f32) (R : FVec Ideal ⟨2, ![M, N]⟩ .bf16)
    (hS : (⟨2, ![M, 1]⟩ : Shape).Broadcasts ⟨2, ![M, N]⟩) (hT : (⟨2, ![1, N]⟩ : Shape).Broadcasts ⟨2, ![M, N]⟩)
    (h : FTy.bf16.bits < FTy.f32.bits) :
    (truncf .bf16 (addf (extf .f32 R h)
      (mulf (mulf (matmul (DotDims.plain M K N) none X W (constant ⟨2, ![M, N]⟩ .f32 0#32)) (broadcastTo ⟨2, ![M, N]⟩ S hS))
        (broadcastTo ⟨2, ![M, N]⟩ T hT))) h : FVec Ideal ⟨2, ![M, N]⟩ .bf16) = proj X S W T R := by
  funext i
  obtain ⟨a, b, rfl⟩ : ∃ a b, i = ix2 a b := ⟨i 0, i 1, eq_ix2 i⟩
  have hM := Ideal.matmul_plain_apply none X W (constant ⟨2, ![M, N]⟩ .f32 0#32) a b
  rw [truncf_apply, addf_apply, extf_apply, mulf_apply, mulf_apply,
    broadcastTo_apply S hS (ix2 a b) (ix2 a 0) (fun x => by
      match x with
      | ⟨0, _⟩ => show a.val = if M = 1 then 0 else a.val; split <;> omega
      | ⟨1, _⟩ => rfl),
    broadcastTo_apply T hT (ix2 a b) (ix2 0 b) (fun x => by
      match x with
      | ⟨0, _⟩ => rfl
      | ⟨1, _⟩ => show b.val = if N = 1 then 0 else b.val; split <;> omega)]
  exact congrArg (fun z => R (ix2 a b) + z * S (ix2 a 0) * T (ix2 0 b)) hM

/-- The whole projection from the five arguments as they come: activation codes and scales of 2 × 4096 tokens laid out
    as 8192 rows, the column scales as one row, the residual likewise. -/
def result (x : FVec Ideal ⟨3, ![2, 4096, 15232]⟩ .fp8e4m3) (xs : FVec Ideal ⟨3, ![2, 4096, 1]⟩ .f32)
    (w : FVec Ideal ⟨2, ![15232, 19072]⟩ .fp8e4m3) (ws : FVec Ideal ⟨1, ![19072]⟩ .f32)
    (r : FVec Ideal ⟨3, ![2, 4096, 19072]⟩ .bf16) (h0 : (⟨3, ![2, 4096, 15232]⟩ : Shape).ShapeCasts ⟨2, ![8192, 15232]⟩)
    (h1 : (⟨3, ![2, 4096, 1]⟩ : Shape).ShapeCasts ⟨2, ![8192, 1]⟩) (h3 : (⟨1, ![19072]⟩ : Shape).ShapeCasts ⟨2, ![1, 19072]⟩)
    (h4 : (⟨3, ![2, 4096, 19072]⟩ : Shape).ShapeCasts ⟨2, ![8192, 19072]⟩) : FVec Ideal ⟨2, ![8192, 19072]⟩ .bf16 :=
  proj (shapeCast ⟨2, ![8192, 15232]⟩ x h0) (shapeCast ⟨2, ![8192, 1]⟩ xs h1) w (shapeCast ⟨2, ![1, 19072]⟩ ws h3)
    (shapeCast ⟨2, ![8192, 19072]⟩ r h4)

end Cert.Project

end
-- ==== Proof.Project.IdealValue.lean ====
/-
  The output block of the projection kernel in closed form over the reals: `proj` of the five input blocks. Each of
  the body's two stores is `proj` of the rows it reads, so the block they tile is `proj` of the whole blocks; in
  particular a column of the output block depends on the same column of the weight block only.
-/
module

public import proofs.«01_k».proof.Proof.Project.IdealBody
public import proofs.«01_k».proof.Proof.Project.Value
public import Idealize.ShloMosaic.Lib.Pipeline.ValueKit.Tiles

@[expose] public section

set_option maxRecDepth 16384

noncomputable section

namespace Cert.KernelIdeal.Body

open Cert.KernelIdeal Cert.KernelIdeal.Gen Cert.Project
open Idealize.ShloMosaic Idealize.ShloMosaic.ValueIdx

variable (x0 : Vec Ideal S1024x15232 .fp8e4m3) (x1 : Vec Ideal S1024x1 .f32) (x2 : Vec Ideal S15232x512 .fp8e4m3)
  (x3 : Vec Ideal S1x512 .f32) (x4 : Vec Ideal S1024x512 .bf16)

/-- The first store's operations are `proj` of what was loaded, -/
theorem pay2_eq (a0 : Vec Ideal S512x15232 .fp8e4m3) (a2 : Vec Ideal S15232x512 .fp8e4m3) (a1 : Vec Ideal S512x1 .f32)
    (a3 : Vec Ideal S1x512 .f32) (a4 : Vec Ideal S512x512 .bf16) : k0_pay2 a0 a2 a1 a3 a4 = proj a0 a1 a2 a3 a4 := by
  unfold k0_pay2
  simp only [shapeCast_self]
  exact tile_eq a0 a1 a2 a3 a4 _ _ _

/-- and so are the second store's. -/
theorem pay1_eq (a0 : Vec Ideal S512x15232 .fp8e4m3) (a2 : Vec Ideal S15232x512 .fp8e4m3) (a1 : Vec Ideal S512x1 .f32)
    (a3 : Vec Ideal S1x512 .f32) (a4 : Vec Ideal S512x512 .bf16) : k0_pay1 (k0_pay3 a0 a2 a1 a3) (k0_pay4 a4) = proj a0 a1 a2 a3 a4 := by
  unfold k0_pay1 k0_pay3 k0_pay4
  simp only [shapeCast_self]
  exact tile_eq a0 a1 a2 a3 a4 _ _ _

/-- The upper half of the output block at an index is `proj` of the blocks at the index under it, -/
theorem upper_apply (x : rO0.shape.Idx) : upper x0 x1 x2 x3 x4 x = proj x0 x1 x2 x3 x4 (rO0.idx x) := by
  unfold upper
  rw [pay2_eq]
  refine proj_congr _ _ (fun k => ?_) ?_ (fun k => ?_) ?_ rfl
  all_goals
    refine View.ld_unit_apply_of _ _ _ _ _ _ fun a => ?_
    match a with
    | ⟨0, _⟩ => simp
    | ⟨1, _⟩ => simp

/-- and so is the lower half. -/
theorem lower_apply (x : rO1.shape.Idx) : lower x0 x1 x2 x3 x4 x = proj x0 x1 x2 x3 x4 (rO1.idx x) := by
  unfold lower
  rw [pay1_eq]
  refine proj_congr _ _ (fun k => ?_) ?_ (fun k => ?_) ?_ rfl
  all_goals
    refine View.ld_unit_apply_of _ _ _ _ _ _ fun a => ?_
    match a with
    | ⟨0, _⟩ => simp
    | ⟨1, _⟩ => simp

/-- The output block is `proj` of the input blocks. -/
theorem outBlk_eq : outBlk x0 x1 x2 x3 x4 = proj x0 x1 x2 x3 x4 := by
  funext y
  unfold outBlk
  refine View.canon_apply_of_pieces (Val := Elt Ideal) (proj x0 x1 x2 x3 x4) _ ?_ y (cover_out _ _ y)
  intro pc hpc x
  rcases List.mem_cons.mp hpc with rfl | hpc
  · exact lower_apply x0 x1 x2 x3 x4 x
  · rcases List.mem_cons.mp hpc with rfl | hpc
    · exact upper_apply x0 x1 x2 x3 x4 x
    · exact absurd hpc List.not_mem_nil

end Cert.KernelIdeal.Body

end
-- ==== Proof.Project.IdealRun.lean ====
/-
  The run of the projection kernel over the reals: every execution ends, leaves the five arguments as they were, every
  semaphore counter at zero, and the result array at `proj` of the arrays the call reads.

  The last column block reaches past the arrays' 19072 columns, so the tails of the staged weight codes, column scales
  and residuals hold numbers that nothing names. Over the reals a column of the product depends on that column of the
  weights only, so the part of the output block inside the array does not depend on those tails: each ragged window,
  the output included, is stated on the part of its block inside the array, whatever the tails hold.
-/
module

public import proofs.«01_k».proof.Proof.Project.IdealValue
public import Idealize.ShloMosaic.Lib.Pipeline.ValueKit.Geometry

@[expose] public section

set_option maxRecDepth 16384

noncomputable section

namespace Cert.KernelIdeal.Body

open Cert.KernelIdeal Cert.KernelIdeal.Gen Cert.Project
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- A window's staging buffer as a fetch leaves it: the block on the part inside the array, `d` elsewhere. -/
abbrev held (c : Dev nD) (w : Fin cfg0.W) (t : Fin cfg0.N) (d : (cfg0.win w).block.Idx → Elt Ideal (cfg0.win w).elt) :
    (cfg0.win w).block.Idx → Elt Ideal (cfg0.win w).elt :=
  (cfg0.win w).fill (grid0.coords t) d (iblk m c w t)

/-- The output block at point `t`, the ragged inputs' tails filled with an arbitrary number. -/
def outIn (c : Dev nD) (t : Fin cfg0.N) : Vec Ideal S1024x512 .bf16 :=
  outBlk (iblk m c 0 t) (iblk m c 1 t) (held m c 2 t fun _ => Classical.arbitrary _) (held m c 3 t fun _ => Classical.arbitrary _)
    (held m c 4 t fun _ => Classical.arbitrary _)

/-- The proof data: the arrays as the region finds them; every input's buffer holds its block (a ragged one's on the
    part inside the array), the output's holds `proj` of them. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => held m c 2 t fun _ => Classical.arbitrary _
    | ⟨3, _⟩ => held m c 3 t fun _ => Classical.arbitrary _
    | ⟨4, _⟩ => held m c 4 t fun _ => Classical.arbitrary _
    | ⟨5, _⟩ => outIn m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = held m c 2 t fun _ => Classical.arbitrary _ := by dsimp only [dats]
theorem after_3 (c : Dev nD) (t : Fin cfg0.N) : (dats m 0 c).after 3 t = held m c 3 t fun _ => Classical.arbitrary _ := by dsimp only [dats]
theorem after_4 (c : Dev nD) (t : Fin cfg0.N) : (dats m 0 c).after 4 t = held m c 4 t fun _ => Classical.arbitrary _ := by dsimp only [dats]

theorem after_5 (c : Dev nD) (t : Fin cfg0.N) : (dats m 0 c).after 5 t = outIn m c t := by dsimp only [dats]

/-- What the body finds: the first two windows' blocks, fetched there or not, -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
/-- and the three ragged windows' buffers as this point's fetch leaves them. -/
theorem before_2 (c : Dev nD) (t : Fin cfg0.N) (d) : (dats m 0 c).before 2 t d = held m c 2 t d := by
  rw [Pipeline.Dat.before_fetched _ _ _ (fetch0_2 t)]; unfold Dat.fetched Dat.blockOf held iblk; rw [A_eq]
theorem before_3 (c : Dev nD) (t : Fin cfg0.N) (d) : (dats m 0 c).before 3 t d = held m c 3 t d := by
  rw [Pipeline.Dat.before_fetched _ _ _ (fetch0_3 t)]; unfold Dat.fetched Dat.blockOf held iblk; rw [A_eq]
theorem before_4 (c : Dev nD) (t : Fin cfg0.N) (d) : (dats m 0 c).before 4 t d = held m c 4 t d := by
  rw [Pipeline.Dat.before_fetched _ _ _ (fetch0_4 t)]; unfold Dat.fetched Dat.blockOf held iblk; rw [A_eq]

/-- A window's moved part is the same whatever fills the rest. -/
theorem fill_moved {W : Window sig grid0} {α : Type} (i : grid0.Coords) (d d' : W.block.Idx → α) (g : (W.xblock i).Idx → α) (j : W.block.Idx)
    (h : ∀ a, (j a).val < W.xsize i a) : W.fill i d g j = W.fill i d' g j := by
  have hm := (W.moved_iff i j).mpr h
  unfold Window.fill; rw [dif_pos hm, dif_pos hm]

/-- At every point the ragged windows reach as far into their arrays as the output's does, and all their rows. -/
theorem sizes : ∀ t : Fin cfg0.N, (∀ j : Fin 512, j.val < win0_5.xsize (grid0.coords t) 1 → j.val < win0_2.xsize (grid0.coords t) 1
      ∧ j.val < win0_3.xsize (grid0.coords t) 1 ∧ j.val < win0_4.xsize (grid0.coords t) 1)
    ∧ win0_2.xsize (grid0.coords t) 0 = 15232 ∧ win0_3.xsize (grid0.coords t) 0 = 1 ∧ win0_4.xsize (grid0.coords t) 0 = 1024 := by
  have h : ∀ t : Fin grid0.N, win0_2.xsize (grid0.coords t) 1 = win0_5.xsize (grid0.coords t) 1
      ∧ win0_3.xsize (grid0.coords t) 1 = win0_5.xsize (grid0.coords t) 1 ∧ win0_4.xsize (grid0.coords t) 1 = win0_5.xsize (grid0.coords t) 1
      ∧ win0_2.xsize (grid0.coords t) 0 = 15232 ∧ win0_3.xsize (grid0.coords t) 0 = 1 ∧ win0_4.xsize (grid0.coords t) 0 = 1024 := by decide +kernel
  intro t
  obtain ⟨h2, h3, h4, h2', h3', h4'⟩ := h t
  exact ⟨fun j hj => ⟨h2 ▸ hj, h3 ▸ hj, h4 ▸ hj⟩, h2', h3', h4'⟩

/-- The part of the output block inside the array does not depend on what fills the ragged inputs' tails. -/
theorem cut_out (c : Dev nD) (t : Fin cfg0.N) (d2 d3 d4) :
    (cfg0.win 5).cut (grid0.coords t) (outBlk (iblk m c 0 t) (iblk m c 1 t) (held m c 2 t d2) (held m c 3 t d3) (held m c 4 t d4))
      = (cfg0.win 5).cut (grid0.coords t) (outIn m c t) := by
  funext y
  obtain ⟨hcol, r2, r3, r4⟩ := sizes t
  obtain ⟨c2, c3, c4⟩ := hcol ((cfg0.win 5).xinj (grid0.coords t) y 1) (y 1).isLt
  have hrow : ((cfg0.win 5).xinj (grid0.coords t) y 0).val < 1024 := ((cfg0.win 5).xinj (grid0.coords t) y 0).isLt
  show outBlk _ _ _ _ _ ((cfg0.win 5).xinj (grid0.coords t) y) = outIn m c t ((cfg0.win 5).xinj (grid0.coords t) y)
  unfold outIn
  rw [outBlk_eq, outBlk_eq]
  refine proj_congr _ _ (fun k => rfl) rfl (fun k => ?_) ?_ ?_
  · refine fill_moved (W := win0_2) _ _ _ _ _ fun a => ?_
    match a with
    | ⟨0, _⟩ => exact lt_of_lt_of_eq k.isLt r2.symm
    | ⟨1, _⟩ => exact c2
  · refine fill_moved (W := win0_3) _ _ _ _ _ fun a => ?_
    match a with
    | ⟨0, _⟩ => exact lt_of_lt_of_eq Nat.one_pos r3.symm
    | ⟨1, _⟩ => exact c3
  · refine fill_moved (W := win0_4) _ _ _ _ _ fun a => ?_
    match a with
    | ⟨0, _⟩ => exact lt_of_lt_of_eq hrow r4.symm
    | ⟨1, _⟩ => exact c4

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns: a ragged window's buffer stated on the part inside the array. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare ((cfg0.win 2).fill (grid0.coords t) d ((cfg0.win 2).cut (grid0.coords t) ((dats m 0 c).after 2 t))))
    ∗ (∃ d, owns (c : Thread nD τ) (st0_3 t) fullShare ((cfg0.win 3).fill (grid0.coords t) d ((cfg0.win 3).cut (grid0.coords t) ((dats m 0 c).after 3 t))))
    ∗ (∃ d, owns (c : Thread nD τ) (st0_4 t) fullShare ((cfg0.win 4).fill (grid0.coords t) d ((cfg0.win 4).cut (grid0.coords t) ((dats m 0 c).after 4 t))))
    ∗ (∃ d, owns (c : Thread nD τ) (st0_5 t) fullShare ((cfg0.win 5).fill (grid0.coords t) d ((cfg0.win 5).cut (grid0.coords t) ((dats m 0 c).after 5 t)))))

/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5, Window.cut_fill, Window.cut_fill, Window.cut_fill]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (held m c 2 t d2) (held m c 3 t d3) (held m c 4 t d4) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexists d2; iexact H2
  isplitl [H3]; · iexists d3; iexact H3
  isplitl [H4]; · iexists d4; iexact H4
  iexists _
  rw [← (cfg0.win 5).fill_congr_cut (grid0.coords t) (cut_out m c t d2 d3 d4)]
  iexact H5

/-- The library's body obligation. -/
theorem body_obligation (c : Dev nD) :
    BodyObligationLoose (dats m 0 c) (defs₀ (F := Ideal)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- Every execution ends, with the arrays as the pipeline leaves them and every counter at zero. -/
theorem run_main : θ_run defs (onTc (τ := τ) (main (F := Ideal))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

end Cert.KernelIdeal.Body

end
-- ==== Proof.Project.IdealFinal.lean ====
/-
  The result of the projection kernel over the reals. Every point's write-back is its block of one array, `proj` of the
  arrays the call reads, and the blocks cover the result; the arrays the call reads are the arguments laid out as rows.
-/
module

public import proofs.«01_k».proof.Proof.Project.IdealRun

@[expose] public section

set_option maxRecDepth 16384

noncomputable section

namespace Cert.KernelIdeal.Body

open Cert.KernelIdeal Cert.KernelIdeal.Gen Cert.Project
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-! ## The arrays the call reads -/

theorem V_main_v0 (c : Dev nD) : V m c main_v0
    = shapeCast S8192x15232 (m ((c : Thread nD τ).loc main_arg0)) shapeCasts_S2x4096x15232_S8192x15232 := by
  show StableHlo.after hostOps0 _ (Proc.devRef .tc main_v0) = _
  after_results
  rfl
theorem V_main_v1 (c : Dev nD) : V m c main_v1
    = shapeCast S8192x1 (m ((c : Thread nD τ).loc main_arg1)) shapeCasts_S2x4096x1_S8192x1 := by
  show StableHlo.after hostOps0 _ (Proc.devRef .tc main_v1) = _
  after_results
  rfl
theorem V_main_v2 (c : Dev nD) : V m c main_v2
    = shapeCast S8192x19072 (m ((c : Thread nD τ).loc main_arg4)) shapeCasts_S2x4096x19072_S8192x19072 := by
  show StableHlo.after hostOps0 _ (Proc.devRef .tc main_v2) = _
  after_results
  rfl
theorem V_main_v3 (c : Dev nD) : V m c main_v3
    = shapeCast S1x19072 (m ((c : Thread nD τ).loc main_arg3)) shapeCasts_S19072_S1x19072 := by
  show StableHlo.after hostOps0 _ (Proc.devRef .tc main_v3) = _
  after_results
  rfl

/-! ## Blocks at coordinates -/

/-- Which block of its array each window holds at a point, against the output's: the row block is the output's, the column
    block is the output's. -/
theorem index_eq : ∀ t : Fin cfg0.N, win0_0.index t 0 = win0_5.index t 0 ∧ win0_0.index t 1 = 0
    ∧ win0_1.index t 0 = win0_5.index t 0 ∧ win0_1.index t 1 = 0 ∧ win0_2.index t 0 = 0 ∧ win0_2.index t 1 = win0_5.index t 1
    ∧ win0_3.index t 0 = 0 ∧ win0_3.index t 1 = win0_5.index t 1
    ∧ win0_4.index t 0 = win0_5.index t 0 ∧ win0_4.index t 1 = win0_5.index t 1 :=
  (by decide +kernel : ∀ t : Fin grid0.N, _)

/-- A block's element is the array's at the block's offset plus the element's own coordinates. -/
theorem iblk0_apply (c : Dev nD) (t : Fin cfg0.N) (x : S1024x15232.Idx) (i : S8192x15232.Idx)
    (h : ∀ a, (i a).val = win0_0.index t a * win0_0.size a + (x a).val) : iblk m c 0 t x = V m c main_v0 i := by
  show V m c main_v0 ((win0_0.blk t).view.emb x) = V m c main_v0 i
  exact congrArg _ (funext fun a => Fin.ext ((win0_0.rect_emb_val t x a).trans (h a).symm))
theorem iblk1_apply (c : Dev nD) (t : Fin cfg0.N) (x : S1024x1.Idx) (i : S8192x1.Idx)
    (h : ∀ a, (i a).val = win0_1.index t a * win0_1.size a + (x a).val) : iblk m c 1 t x = V m c main_v1 i := by
  show V m c main_v1 ((win0_1.blk t).view.emb x) = V m c main_v1 i
  exact congrArg _ (funext fun a => Fin.ext ((win0_1.rect_emb_val t x a).trans (h a).symm))
/-- So is an element of a ragged window's buffer, on the part inside the array. -/
theorem held2_apply (c : Dev nD) (t : Fin cfg0.N) (d) (x : S15232x512.Idx) (i : S15232x19072.Idx) (hx : ∀ a, (x a).val < win0_2.xsize (grid0.coords t) a)
    (h : ∀ a, (i a).val = win0_2.index t a * win0_2.size a + (x a).val) : held m c 2 t d x = V m c main_arg2 i := by
  show win0_2.fill (grid0.coords t) d (iblk m c 2 t) x = _
  unfold Window.fill; rw [dif_pos ((win0_2.moved_iff _ x).mpr hx)]
  show V m c main_arg2 ((win0_2.blk t).view.emb _) = V m c main_arg2 i
  exact congrArg _ (funext fun a => Fin.ext ((win0_2.rect_emb_val t _ a).trans (h a).symm))
theorem held3_apply (c : Dev nD) (t : Fin cfg0.N) (d) (x : S1x512.Idx) (i : S1x19072.Idx) (hx : ∀ a, (x a).val < win0_3.xsize (grid0.coords t) a)
    (h : ∀ a, (i a).val = win0_3.index t a * win0_3.size a + (x a).val) : held m c 3 t d x = V m c main_v3 i := by
  show win0_3.fill (grid0.coords t) d (iblk m c 3 t) x = _
  unfold Window.fill; rw [dif_pos ((win0_3.moved_iff _ x).mpr hx)]
  show V m c main_v3 ((win0_3.blk t).view.emb _) = V m c main_v3 i
  exact congrArg _ (funext fun a => Fin.ext ((win0_3.rect_emb_val t _ a).trans (h a).symm))
theorem held4_apply (c : Dev nD) (t : Fin cfg0.N) (d) (x : S1024x512.Idx) (i : S8192x19072.Idx) (hx : ∀ a, (x a).val < win0_4.xsize (grid0.coords t) a)
    (h : ∀ a, (i a).val = win0_4.index t a * win0_4.size a + (x a).val) : held m c 4 t d x = V m c main_v2 i := by
  show win0_4.fill (grid0.coords t) d (iblk m c 4 t) x = _
  unfold Window.fill; rw [dif_pos ((win0_4.moved_iff _ x).mpr hx)]
  show V m c main_v2 ((win0_4.blk t).view.emb _) = V m c main_v2 i
  exact congrArg _ (funext fun a => Fin.ext ((win0_4.rect_emb_val t _ a).trans (h a).symm))

/-! ## The result array -/

/-- What every point writes back is its block of `proj` of the whole arrays. -/
theorem out_apply (c : Dev nD) (t : Fin cfg0.N) (y : (win0_5.xblock (grid0.coords t)).Idx) :
    outIn m c t (win0_5.xinj (grid0.coords t) y)
      = proj (V m c main_v0) (V m c main_v1) (V m c main_arg2) (V m c main_v3) (V m c main_v2) ((win0_5.blk t).view.emb y) := by
  have e0 : ((win0_5.blk t).view.emb y 0).val = win0_5.index t 0 * 1024 + (y 0).val := win0_5.rect_emb_val t y 0
  have e1 : ((win0_5.blk t).view.emb y 1).val = win0_5.index t 1 * 512 + (y 1).val := win0_5.rect_emb_val t y 1
  obtain ⟨hcol, r2, r3, r4⟩ := sizes t
  obtain ⟨c2, c3, c4⟩ := hcol (win0_5.xinj (grid0.coords t) y 1) (y 1).isLt
  have hrow : (win0_5.xinj (grid0.coords t) y 0).val < 1024 := (win0_5.xinj (grid0.coords t) y 0).isLt
  obtain ⟨i00, i01, i10, i11, i20, i21, i30, i31, i40, i41⟩ := index_eq t
  unfold outIn
  rw [outBlk_eq]
  refine proj_congr _ _ (fun k => ?_) ?_ (fun k => ?_) ?_ ?_
  · refine iblk0_apply m c t _ _ fun a => ?_
    match a with
    | ⟨0, _⟩ => show ((win0_5.blk t).view.emb y 0).val = win0_0.index t 0 * 1024 + (y 0).val; rw [i00]; exact e0
    | ⟨1, _⟩ => show k.val = win0_0.index t 1 * 15232 + k.val; rw [i01]; omega
  · refine iblk1_apply m c t _ _ fun a => ?_
    match a with
    | ⟨0, _⟩ => show ((win0_5.blk t).view.emb y 0).val = win0_1.index t 0 * 1024 + (y 0).val; rw [i10]; exact e0
    | ⟨1, _⟩ => show (0 : ℕ) = win0_1.index t 1 * 1 + 0; rw [i11]
  · refine held2_apply m c t _ _ _ (fun a => ?_) fun a => ?_
    · match a with
      | ⟨0, _⟩ => exact lt_of_lt_of_eq k.isLt r2.symm
      | ⟨1, _⟩ => exact c2
    · match a with
      | ⟨0, _⟩ => show k.val = win0_2.index t 0 * 15232 + k.val; rw [i20]; omega
      | ⟨1, _⟩ => show ((win0_5.blk t).view.emb y 1).val = win0_2.index t 1 * 512 + (y 1).val; rw [i21]; exact e1
  · refine held3_apply m c t _ _ _ (fun a => ?_) fun a => ?_
    · match a with
      | ⟨0, _⟩ => exact lt_of_lt_of_eq Nat.one_pos r3.symm
      | ⟨1, _⟩ => exact c3
    · match a with
      | ⟨0, _⟩ => show (0 : ℕ) = win0_3.index t 0 * 1 + 0; rw [i30]
      | ⟨1, _⟩ => show ((win0_5.blk t).view.emb y 1).val = win0_3.index t 1 * 512 + (y 1).val; rw [i31]; exact e1
  · refine held4_apply m c t _ _ _ (fun a => ?_) fun a => ?_
    · match a with
      | ⟨0, _⟩ => exact lt_of_lt_of_eq hrow r4.symm
      | ⟨1, _⟩ => exact c4
    · match a with
      | ⟨0, _⟩ => show ((win0_5.blk t).view.emb y 0).val = win0_4.index t 0 * 1024 + (y 0).val; rw [i40]; exact e0
      | ⟨1, _⟩ => show ((win0_5.blk t).view.emb y 1).val = win0_4.index t 1 * 512 + (y 1).val; rw [i41]; exact e1

/-- The output's blocks cover its array. -/
theorem covers : (cfg0.win 5).Covers := by decide +kernel

/-- The result array after the run, over the arrays the call reads, -/
theorem final_V (c : Dev nD) : (dats m 0 c).arrAt 5 cfg0.N
    = proj (V m c main_v0) (V m c main_v1) (V m c main_arg2) (V m c main_v3) (V m c main_v2) :=
  (dats m 0 c).arrAt_eq_of_covers 5 _ covers fun t hf y => by
    refine (cast_eq _ _).trans ?_
    exact (congrFun (after_5 m c t) _).trans (out_apply m c t y)

/-- and over the arguments. -/
theorem final (c : Dev nD) : (dats m 0 c).arrAt 5 cfg0.N
    = result (m ((c : Thread nD τ).loc main_arg0)) (m ((c : Thread nD τ).loc main_arg1)) (m ((c : Thread nD τ).loc main_arg2))
        (m ((c : Thread nD τ).loc main_arg3)) (m ((c : Thread nD τ).loc main_arg4)) shapeCasts_S2x4096x15232_S8192x15232
        shapeCasts_S2x4096x1_S8192x1 shapeCasts_S19072_S1x19072 shapeCasts_S2x4096x19072_S8192x19072 := by
  rw [final_V, V_main_v0, V_main_v1, V_main_v2, V_main_v3, V_main_arg2]
  rfl

/-- The run with its result named and the arguments unchanged, -/
theorem run_value : θ_run defs (onTc (τ := τ) (main (F := Ideal))) ⟨m, fun _ => 0, ρ⟩ fun r => (∀ c : Dev nD,
      r.2.mem ((c.tc : Thread nD τ).loc main_v4)
        = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) shapeCasts_S2x4096x15232_S8192x15232
        shapeCasts_S2x4096x1_S8192x1 shapeCasts_S19072_S1x19072 shapeCasts_S2x4096x19072_S8192x19072
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run defs _ _).mono (fun _ h => ⟨fun c =>
      ⟨((h.1 c).1 5).trans (final m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).1 2).trans (((dats m 0 c).arrAt_in 2 rfl _).trans ((A_eq m c 2).trans (V_main_arg2 m c))),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩)
    (run_main m ρ)

end Cert.KernelIdeal.Body

end
-- ==== Proof.Project.ReferenceFinal.lean ====
/-
  The reference's result over the reals: one body on whole arrays, whose single store is `proj` of the arrays it reads;
  those are the arguments laid out as rows.
-/
module

public import proofs.«01_k».proof.Proof.Gen.ReferenceIdeal.Value
public import proofs.«01_k».proof.Proof.Project.Value
public import Idealize.ShloMosaic.Lib.Pipeline.ValueKit.Tiles
public import Idealize.ShloMosaic.Lib.Pipeline.ValueKit.Geometry

@[expose] public section

set_option maxRecDepth 16384

noncomputable section

namespace Cert.ReferenceIdeal.Body

open Cert.ReferenceIdeal Cert.ReferenceIdeal.Gen Cert.Project
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-! ## The arrays the call reads -/

theorem V_main_v0 (c : Dev nD) : V m c main_v0
    = shapeCast S8192x15232 (m ((c : Thread nD τ).loc main_arg0)) shapeCasts_S2x4096x15232_S8192x15232 := by
  show StableHlo.after hostOps0 _ (Proc.devRef .tc main_v0) = _
  after_results
  rfl
theorem V_main_v1 (c : Dev nD) : V m c main_v1
    = shapeCast S8192x1 (m ((c : Thread nD τ).loc main_arg1)) shapeCasts_S2x4096x1_S8192x1 := by
  show StableHlo.after hostOps0 _ (Proc.devRef .tc main_v1) = _
  after_results
  rfl
theorem V_main_v2 (c : Dev nD) : V m c main_v2
    = shapeCast S1x19072 (m ((c : Thread nD τ).loc main_arg3)) shapeCasts_S19072_S1x19072 := by
  show StableHlo.after hostOps0 _ (Proc.devRef .tc main_v2) = _
  after_results
  rfl
theorem V_main_v3 (c : Dev nD) : V m c main_v3
    = shapeCast S8192x19072 (m ((c : Thread nD τ).loc main_arg4)) shapeCasts_S2x4096x19072_S8192x19072 := by
  show StableHlo.after hostOps0 _ (Proc.devRef .tc main_v3) = _
  after_results
  rfl

/-! ## The body's store -/

/-- The stored array is `proj` of the loaded ones. -/
theorem pay1_eq (a0 : Vec Ideal S8192x15232 .fp8e4m3) (a2 : Vec Ideal S15232x19072 .fp8e4m3) (a1 : Vec Ideal S8192x1 .f32)
    (a3 : Vec Ideal S1x19072 .f32) (a4 : Vec Ideal S8192x19072 .bf16) : k0_pay1 a0 a2 a1 a3 a4 = proj a0 a1 a2 a3 a4 := by
  unfold k0_pay1
  simp only [shapeCast_self]
  exact tile_eq a0 a1 a2 a3 a4 _ _ _

/-- Every load and the store are of whole arrays. -/
theorem out_eq (x0 : Vec Ideal S8192x15232 .fp8e4m3) (x1 : Vec Ideal S8192x1 .f32) (x2 : Vec Ideal S15232x19072 .fp8e4m3)
    (x3 : Vec Ideal S1x19072 .f32) (x4 : Vec Ideal S8192x19072 .bf16) : out0_5 x0 x1 x2 x3 x4 = proj x0 x1 x2 x3 x4 := by
  have hz : (![0, 0] : Fin 2 → ℕ) = fun _ => 0 := by funext a; match a with | ⟨0, _⟩ => rfl | ⟨1, _⟩ => rfl
  unfold out0_5
  rw [pay1_eq]
  refine (View.canon_unit_zero (S := S8192x19072) hz _ _).trans ?_
  rw [View.ld_unit_zero (S := S8192x15232) hz, View.ld_unit_zero (S := S8192x1) hz, View.ld_unit_zero (S := S15232x19072) hz,
    View.ld_unit_zero (S := S1x19072) hz, View.ld_unit_zero (S := S8192x19072) hz]

/-! ## The result array -/

/-- The one point's blocks are the whole arrays. -/
theorem index_zero : ∀ t : Fin cfg0.N, (∀ a, win0_0.index t a = 0) ∧ (∀ a, win0_1.index t a = 0) ∧ (∀ a, win0_2.index t a = 0)
    ∧ (∀ a, win0_3.index t a = 0) ∧ (∀ a, win0_4.index t a = 0) ∧ (∀ a, win0_5.index t a = 0) :=
  (by decide +kernel : ∀ t : Fin grid0.N, _)

theorem iblk0_eq (c : Dev nD) (t : Fin cfg0.N) : iblk m c 0 t = V m c main_v0 := funext fun x => by
  show V m c main_v0 ((win0_0.blk t).view.emb x) = V m c main_v0 x
  exact congrArg _ (funext fun a => Fin.ext (win0_0.rect_emb_val_of_index_zero t a ((index_zero t).1 a) x))
theorem iblk1_eq (c : Dev nD) (t : Fin cfg0.N) : iblk m c 1 t = V m c main_v1 := funext fun x => by
  show V m c main_v1 ((win0_1.blk t).view.emb x) = V m c main_v1 x
  exact congrArg _ (funext fun a => Fin.ext (win0_1.rect_emb_val_of_index_zero t a ((index_zero t).2.1 a) x))
theorem iblk2_eq (c : Dev nD) (t : Fin cfg0.N) : iblk m c 2 t = V m c main_arg2 := funext fun x => by
  show V m c main_arg2 ((win0_2.blk t).view.emb x) = V m c main_arg2 x
  exact congrArg _ (funext fun a => Fin.ext (win0_2.rect_emb_val_of_index_zero t a ((index_zero t).2.2.1 a) x))
theorem iblk3_eq (c : Dev nD) (t : Fin cfg0.N) : iblk m c 3 t = V m c main_v2 := funext fun x => by
  show V m c main_v2 ((win0_3.blk t).view.emb x) = V m c main_v2 x
  exact congrArg _ (funext fun a => Fin.ext (win0_3.rect_emb_val_of_index_zero t a ((index_zero t).2.2.2.1 a) x))
theorem iblk4_eq (c : Dev nD) (t : Fin cfg0.N) : iblk m c 4 t = V m c main_v3 := funext fun x => by
  show V m c main_v3 ((win0_4.blk t).view.emb x) = V m c main_v3 x
  exact congrArg _ (funext fun a => Fin.ext (win0_4.rect_emb_val_of_index_zero t a ((index_zero t).2.2.2.2.1 a) x))

/-- The output's block covers its array. -/
theorem covers : (cfg0.win 5).Covers := by decide +kernel

/-- The result array after the run, over the arrays the call reads, -/
theorem final_V (c : Dev nD) : (dats m 0 c).arrAt 5 cfg0.N
    = proj (V m c main_v0) (V m c main_v1) (V m c main_arg2) (V m c main_v2) (V m c main_v3) :=
  (dats m 0 c).arrAt_eq_of_covers 5 _ covers fun t hf y => by
    rw [after0_5, out_eq, iblk0_eq, iblk1_eq, iblk2_eq, iblk3_eq, iblk4_eq]
    refine congrArg (proj _ _ _ _ _) (?_ : win0_5.xinj (grid0.coords t) y = (win0_5.blk t).view.emb y)
    exact funext fun a => Fin.ext (win0_5.rect_emb_val_of_index_zero t a ((index_zero t).2.2.2.2.2 a) y).symm

/-- and over the arguments. -/
theorem final (c : Dev nD) : (dats m 0 c).arrAt 5 cfg0.N
    = result (m ((c : Thread nD τ).loc main_arg0)) (m ((c : Thread nD τ).loc main_arg1)) (m ((c : Thread nD τ).loc main_arg2))
        (m ((c : Thread nD τ).loc main_arg3)) (m ((c : Thread nD τ).loc main_arg4)) shapeCasts_S2x4096x15232_S8192x15232
        shapeCasts_S2x4096x1_S8192x1 shapeCasts_S19072_S1x19072 shapeCasts_S2x4096x19072_S8192x19072 := by
  rw [final_V, V_main_v0, V_main_v1, V_main_v2, V_main_v3, V_main_arg2]
  rfl

end Cert.ReferenceIdeal.Body

end
-- ==== Proof.Norm.Exponent.lean ====
/-
  The scale of a row as a power of two, over the reals.

  The kernel finds the exponent field of a row's largest magnitude `a` by a search over the eight bits of the field, each
  candidate read as a power of two and compared with `a`; the scale and its inverse are again fields read as powers of
  two. The reference takes the exponent from the logarithm to base two. Here: for `a = 0` and for `2^-127 ≤ a < 2^126` both
  scales and both inverses agree.
-/
module

public import Idealize.ShloMosaic.Lib.ValueIdx
public import Idealize.ShloMosaic.PureOps.Ideal
public import Idealize.ShloMosaic.PureOps.Ideal.Laws

@[expose] public section

noncomputable section

namespace Cert.Norm

open Idealize.ShloMosaic

/-! ## Fields read as powers of two -/

/-- The word with exponent field `w` and nothing else, read as an f32. -/
def power (w : BitVec 32) : EReal := Ideal.ofBits .f32 (IntOp.shli .vector w 23#32)

/-- Up to 254 the field `n` reads as `2^(n-127)`. -/
theorem power_eq (n : ℕ) (h0 : 1 ≤ n) (h : n ≤ 254) : power (BitVec.ofNat 32 n) = (((2 : ℝ) ^ ((n : ℤ) - 127) : ℝ) : EReal) := by
  have hw : IntOp.shli .vector (BitVec.ofNat 32 n) 23#32 = BitVec.ofNat 32 n <<< 23 := rfl
  have key : ∀ n : Fin 255, ((BitVec.ofNat 32 n.val <<< 23).extractLsb' 31 1) = 0#1
      ∧ ((BitVec.ofNat 32 n.val <<< 23).extractLsb' 23 8).toNat = n.val
      ∧ ((BitVec.ofNat 32 n.val <<< 23).extractLsb' 0 23).toNat = 0 := by decide +kernel
  obtain ⟨k1, k2, k3⟩ := key ⟨n, by omega⟩
  simp only at k1 k2 k3
  unfold power
  rw [hw]
  show Ideal.ieee 8 23 (BitVec.ofNat 32 n <<< 23) = _
  rw [Ideal.ieee]
  simp only [show (8 : ℕ) + 23 = 31 from rfl, k1, k2, k3]
  have d1 : ¬ n = 2 ^ 8 - 1 := by omega
  have d2 : ¬ n = 0 := by omega
  rw [if_neg d1, if_neg d2]
  have e : (2 : ℝ) ^ ((n : ℤ) - 127) = (2 : ℝ) ^ (23 : ℕ) * (2 : ℝ) ^ ((n : ℤ) - 150) := by
    rw [← zpow_natCast, ← zpow_add₀ (two_ne_zero : (2 : ℝ) ≠ 0)]
    exact congrArg _ (by push_cast; ring)
  have e' : (n : ℤ) - (2 ^ (8 - 1) - 1) - (23 : ℕ) = (n : ℤ) - 150 := by norm_num; ring
  have e'' : (((2 ^ 23 + 0 : ℕ) : ℝ)) = (2 : ℝ) ^ (23 : ℕ) := by norm_num
  rw [e, e', e'']
  simp

/-- The field 255 reads as infinity. -/
theorem power_255 : power 255#32 = ⊤ := by
  show Ideal.ieee 8 23 (255#32 <<< 23) = _
  unfold Ideal.ieee
  simp

/-! ## The search -/

/-- One step of the search: the field grows by `b` unless `a` is below the power the grown field reads as. -/
def grow (a : EReal) (b f : BitVec 32) : BitVec 32 :=
  Scalar.select (Ideal.cmp .olt a (power (f + b))) f (f + b)

/-- The field found for `a`. -/
def field (a : EReal) : BitVec 32 :=
  grow a 1#32 (grow a 2#32 (grow a 4#32 (grow a 8#32 (grow a 16#32 (grow a 32#32 (grow a 64#32 (grow a 128#32 0#32)))))))

/-- The same step on numbers, for a field known to be `n`. -/
def growN (n b f : ℕ) : ℕ := if n < f + b then f else f + b

theorem growN_le (n b f : ℕ) : growN n b f ≤ f + b := by unfold growN; split <;> omega

/-- `a` lies in the binade of field `n` (the lowest reaching down to zero). -/
def InBinade (a : EReal) (n : ℕ) : Prop :=
  (n = 0 ∨ (((2 : ℝ) ^ ((n : ℤ) - 127) : ℝ) : EReal) ≤ a) ∧ a < (((2 : ℝ) ^ ((n : ℤ) - 126) : ℝ) : EReal)

/-- `a` of binade `n` is below field `j`'s power exactly when `n < j`. -/
theorem lt_power_iff {a : EReal} {n j : ℕ} (h : InBinade a n) (hn : n ≤ 253) (hj : 1 ≤ j) (hj' : j ≤ 255) :
    a < power (BitVec.ofNat 32 j) ↔ n < j := by
  rcases Nat.lt_or_ge j 255 with hlt | hge
  · rw [power_eq j hj (by omega)]
    constructor
    · intro hlt
      by_contra hc
      rcases h.1 with h0 | h0
      · omega
      · have h1 := lt_of_le_of_lt h0 hlt
        rw [EReal.coe_lt_coe_iff, zpow_lt_zpow_iff_right₀ (by norm_num)] at h1
        omega
    · intro hnj
      refine lt_of_lt_of_le h.2 ?_
      rw [EReal.coe_le_coe_iff]
      exact zpow_le_zpow_right₀ (by norm_num) (by omega)
  · obtain rfl : j = 255 := by omega
    rw [power_255]
    exact ⟨fun _ => by omega, fun _ => lt_of_lt_of_le h.2 le_top⟩

theorem grow_eq {a : EReal} {n b f : ℕ} (h : InBinade a n) (hn : n ≤ 253) (hb : 1 ≤ b) (hfb : f + b ≤ 255) :
    grow a (BitVec.ofNat 32 b) (BitVec.ofNat 32 f) = BitVec.ofNat 32 (growN n b f) := by
  have e : BitVec.ofNat 32 f + BitVec.ofNat 32 b = BitVec.ofNat 32 (f + b) := (BitVec.ofNat_add f b).symm
  have hi := lt_power_iff (j := f + b) h hn (by omega) hfb
  unfold grow growN
  rw [e]
  by_cases c : n < f + b
  · rw [if_pos c]; simp [Scalar.select, Ideal.cmp, hi.2 c]
  · rw [if_neg c]
    have : ¬ a < power (BitVec.ofNat 32 (f + b)) := fun h => c (hi.1 h)
    simp [Scalar.select, Ideal.cmp, this]

theorem growN_all : ∀ n : Fin 256,
    growN n 1 (growN n 2 (growN n 4 (growN n 8 (growN n 16 (growN n 32 (growN n 64 (growN n 128 0))))))) = n.val := by
  decide +kernel

/-- The search finds the field of `a`'s binade. -/
theorem field_eq {a : EReal} {n : ℕ} (h : InBinade a n) (hn : n ≤ 253) : field a = BitVec.ofNat 32 n := by
  have l1 := growN_le n 128 0
  have l2 := growN_le n 64 (growN n 128 0)
  have l3 := growN_le n 32 (growN n 64 (growN n 128 0))
  have l4 := growN_le n 16 (growN n 32 (growN n 64 (growN n 128 0)))
  have l5 := growN_le n 8 (growN n 16 (growN n 32 (growN n 64 (growN n 128 0))))
  have l6 := growN_le n 4 (growN n 8 (growN n 16 (growN n 32 (growN n 64 (growN n 128 0)))))
  have l7 := growN_le n 2 (growN n 4 (growN n 8 (growN n 16 (growN n 32 (growN n 64 (growN n 128 0))))))
  unfold field
  rw [grow_eq (b := 128) (f := 0) h hn (by omega) (by omega), grow_eq (b := 64) h hn (by omega) (by omega),
    grow_eq (b := 32) h hn (by omega) (by omega), grow_eq (b := 16) h hn (by omega) (by omega),
    grow_eq (b := 8) h hn (by omega) (by omega), grow_eq (b := 4) h hn (by omega) (by omega),
    grow_eq (b := 2) h hn (by omega) (by omega), grow_eq (b := 1) h hn (by omega) (by omega)]
  exact congrArg _ (growN_all ⟨n, by omega⟩)

/-! ## The two scales -/

/-- The kernel's exponent: the field less 126, and 0 for a zero row. -/
def kexp (a : EReal) : BitVec 32 := Scalar.select (Ideal.cmp .oeq a (Ideal.ofBits .f32 0#32)) 0#32 (field a - 126#32)
/-- The kernel's scale and inverse scale. -/
def kscale (a : EReal) : EReal := power (kexp a + 127#32)
def kinv (a : EReal) : EReal := power (127#32 - kexp a)

/-- Two, as the reference writes it. -/
def two : EReal := Ideal.ofBits .f32 0x40000000#32
/-- The reference's exponent: one above the integer part of the logarithm, and 0 for a zero row. -/
def rexp (a : EReal) : EReal := Scalar.select (Ideal.cmp .oeq a (Ideal.ofBits .f32 0#32)) (Ideal.ofBits .f32 0#32)
  (Ideal.liftRound Int.floor (Ideal.div (Ideal.log a) (Ideal.log two)) + Ideal.ofBits .f32 0x3F800000#32)
/-- The reference's scale and inverse scale. -/
def rscale (a : EReal) : EReal := Ideal.pow two (rexp a)
def rinv (a : EReal) : EReal := Ideal.pow two (-rexp a)

/-- The magnitudes whose scale the kernel's fields hold. -/
def InRange (a : EReal) : Prop :=
  a = 0 ∨ (((2 : ℝ) ^ (-127 : ℤ) : ℝ) : EReal) ≤ a ∧ a < (((2 : ℝ) ^ (126 : ℤ) : ℝ) : EReal)

theorem two_eq : two = ((2 : ℝ) : EReal) := by
  unfold two; simp [Ideal.ofBits, Ideal.ieee, -EReal.coe_mul]; norm_num
theorem one_eq : Ideal.ofBits .f32 0x3F800000#32 = ((1 : ℝ) : EReal) := by
  simp [Ideal.ofBits, Ideal.ieee, -EReal.coe_mul]; norm_num

theorem two_pow (e : ℤ) : Ideal.pow two ((e : ℝ) : EReal) = (((2 : ℝ) ^ e : ℝ) : EReal) := by
  rw [two_eq, Ideal.pow_coe_coe]
  exact congrArg _ (Real.rpow_intCast 2 e)

/-- The scales agree. -/
theorem scale_eq {a : EReal} (h : InRange a) : kscale a = rscale a ∧ kinv a = rinv a := by
  rcases h with hz | ⟨h0, h1⟩
  · subst hz
    have hk : kexp 0 = 0#32 := by simp [kexp, Scalar.select, Ideal.cmp]
    have hr : rexp 0 = ((0 : ℤ) : ℝ) := by simp [rexp, Scalar.select, Ideal.cmp]
    unfold kscale kinv rscale rinv
    rw [hk, hr, two_pow, show (0#32 + 127#32) = BitVec.ofNat 32 127 from rfl, show (127#32 - 0#32) = BitVec.ofNat 32 127 from rfl,
      power_eq 127 (by norm_num) (by norm_num)]
    rw [show -(((0 : ℤ) : ℝ) : EReal) = (((0 : ℤ) : ℝ) : EReal) by simp, two_pow]
    norm_num
  · obtain ⟨r, rfl⟩ : ∃ r : ℝ, a = r := by
      induction a using EReal.rec with
      | bot => exact absurd (le_bot_iff.1 h0) (EReal.coe_ne_bot _)
      | top => exact absurd h1 not_top_lt
      | coe r => exact ⟨r, rfl⟩
    rw [EReal.coe_le_coe_iff] at h0
    rw [EReal.coe_lt_coe_iff] at h1
    have hr0 : 0 < r := lt_of_lt_of_le (zpow_pos (by norm_num) _) h0
    have h12 : (1 : ℝ) < 2 := by norm_num
    have hl2 : 0 < Real.log 2 := Real.log_pos h12
    obtain ⟨z, hz'⟩ : ∃ z : ℤ, z = ⌊Real.log r / Real.log 2⌋ := ⟨_, rfl⟩
    have hlo : (2 : ℝ) ^ z ≤ r := by
      rw [← Real.log_le_log_iff (zpow_pos (by norm_num) z) hr0, Real.log_zpow, ← le_div_iff₀ hl2, hz']
      exact Int.floor_le _
    have hhi : r < (2 : ℝ) ^ (z + 1) := by
      rw [← Real.log_lt_log_iff hr0 (zpow_pos (by norm_num) _), Real.log_zpow, ← div_lt_iff₀ hl2, hz']
      push_cast
      exact Int.lt_floor_add_one _
    have hz126 : z < 126 := by
      have := lt_of_le_of_lt hlo h1
      rwa [zpow_lt_zpow_iff_right₀ h12] at this
    have hz127 : -127 < z + 1 := by
      have := lt_of_le_of_lt h0 hhi
      rwa [zpow_lt_zpow_iff_right₀ h12] at this
    obtain ⟨n, hn⟩ : ∃ n : ℕ, (n : ℤ) = z + 127 := ⟨(z + 127).toNat, by omega⟩
    have hn' : n ≤ 252 := by omega
    have hb : InBinade (r : EReal) n := by
      constructor
      · rcases Nat.eq_zero_or_pos n with h | h
        · exact .inl h
        · right
          rw [EReal.coe_le_coe_iff, show (n : ℤ) - 127 = z by omega]; exact hlo
      · rw [EReal.coe_lt_coe_iff]
        exact lt_of_lt_of_le hhi (zpow_le_zpow_right₀ h12.le (by omega))
    have hk : kexp (r : EReal) = BitVec.ofNat 32 n - 126#32 := by
      unfold kexp
      rw [field_eq hb (by omega)]
      simp [Scalar.select, Ideal.cmp, hr0.ne']
    have hfloor : Ideal.liftRound Int.floor (Ideal.div (Ideal.log (r : EReal)) (Ideal.log two)) = ((z : ℝ) : EReal) := by
      rw [two_eq, Ideal.log_coe, Ideal.log_coe, if_neg (not_le.2 hr0), if_neg (by norm_num), Ideal.div_coe hl2.ne',
        ← EReal.coe_mul, Ideal.liftRound_coe]
      rw [mul_one_div, hz']
    have hre : rexp (r : EReal) = (((n : ℤ) - 126 : ℤ) : ℝ) := by
      unfold rexp
      rw [hfloor, one_eq, ← EReal.coe_add]
      have : (z : ℝ) + 1 = (((n : ℤ) - 126 : ℤ) : ℝ) := by
        rw [hn]; push_cast; ring
      rw [this]
      simp [Scalar.select, Ideal.cmp, hr0.ne']
    unfold kscale kinv rscale rinv
    rw [hk, hre, two_pow]
    have e1 : BitVec.ofNat 32 n - 126#32 + 127#32 = BitVec.ofNat 32 (n + 1) := by
      apply BitVec.eq_of_toNat_eq; simp; omega
    have e2 : 127#32 - (BitVec.ofNat 32 n - 126#32) = BitVec.ofNat 32 (253 - n) := by
      apply BitVec.eq_of_toNat_eq; simp; omega
    have e3 : -((((n : ℤ) - 126 : ℤ) : ℝ) : EReal) = (((126 - (n : ℤ) : ℤ) : ℝ) : EReal) := by
      rw [← EReal.coe_neg]; congr 1; push_cast; ring
    rw [e1, e2, e3, two_pow, power_eq _ (by omega) (by omega), power_eq _ (by omega) (by omega)]
    refine ⟨?_, ?_⟩
    · congr 2; push_cast; ring
    · congr 2; omega

end Cert.Norm

end
-- ==== Proof.Norm.Row.lean ====
/-
  One row of the norm, over the reals: the root mean square, the normalised row and its largest magnitude.
-/
module

public import proofs.«01_k».proof.Proof.Norm.Exponent

@[expose] public section

noncomputable section

open scoped BigOperators

namespace Cert.Norm

open Idealize.ShloMosaic

variable {D : ℕ}

/-- The reciprocal root of the mean square plus epsilon. -/
def rms (h : Fin D → EReal) : EReal :=
  Ideal.rsqrt (Ideal.div (∑ k, h k * h k) (Ideal.ofBits .f32 0x46950000#32) + Ideal.ofBits .f32 0x3727C5AC#32)

/-- The normalised row times the gains. -/
def normed (h g : Fin D → EReal) (k : Fin D) : EReal := h k * rms h * g k

/-- The row's largest magnitude over the largest code. -/
def amax (h g : Fin D → EReal) : EReal :=
  (Finset.univ : Finset (Fin D)).fold max (Ideal.ofBits .f32 0xFF800000#32) (fun k => max (normed h g k) (-normed h g k))
    * Ideal.ofBits .f32 0x3B124925#32

/-- A code: the normalised entry times the inverse scale, clipped to the largest code. -/
def code (n s : EReal) : EReal := min (Ideal.ofBits .f32 0x43E00000#32) (max (Ideal.ofBits .f32 0xC3E00000#32) (n * s))

end Cert.Norm

end
-- ==== Proof.Norm.Tile.lean ====
/-
  The operations of the norm on an array of rows, entry by entry: the normalised rows and each row's largest magnitude
  are `normed` and `amax` of that row, whatever the number of rows.
-/
module

public import proofs.«01_k».proof.Proof.Norm.Row
public import Idealize.ShloMosaic.Lib.ValueIdx
public import Idealize.ShloMosaic.Lib.ValueIdxCoords
public import Idealize.ShloMosaic.Lib.Pipeline.Value

@[expose] public section

noncomputable section

open scoped BigOperators

namespace Cert.Norm

open Idealize.ShloMosaic Idealize.ShloMosaic.ValueIdx

variable {M D : ℕ}

/-- Row `i` of an array, and the gains. -/
def rowOf (X : FVec Ideal ⟨2, ![M, D]⟩ .bf16) (i : Fin M) : Fin D → EReal := fun k => X (ix2 i k)
def gains (G : FVec Ideal ⟨2, ![1, D]⟩ .bf16) : Fin D → EReal := fun k => G (ix2 0 k)

/-- A column laid out as an M × 1 array. -/
theorem column_apply {φ : FTy} (v : FVec Ideal ⟨1, ![M]⟩ φ) (h : (⟨1, ![M]⟩ : Shape).ShapeCasts ⟨2, ![M, 1]⟩) (i : Fin M) :
    shapeCast ⟨2, ![M, 1]⟩ v h (ix2 i 0) = v (ix1 i) := by
  unfold shapeCast
  refine congrArg v (Shape.reshapeEquiv_eq_of_rowMajor _ ?_)
  show (Shape.rowMajorPi ![M] (ix1 i)).val = (Shape.rowMajorPi ![M, 1] (ix2 i 0)).val
  rw [Shape.rowMajorPi_succ_val, Shape.rowMajorPi_succ_val, Shape.rowMajorPi_succ_val]
  simp [Shape.rowMajorPi, Shape.rankPi]

theorem lift_eq (h : (⟨2, ![M, D]⟩ : Shape).Reduces [1] ⟨1, ![M]⟩) (i : Fin M) (k : Fin D) : h.lift (ix1 i) k = ix2 i k := by
  funext a
  match a with
  | ⟨0, _⟩ => rfl
  | ⟨1, _⟩ => rfl

/-- The sum and the maximum along a row. -/
theorem sum_apply (x : FVec Ideal ⟨2, ![M, D]⟩ .f32) (h : (⟨2, ![M, D]⟩ : Shape).Reduces [1] ⟨1, ![M]⟩) (hφ : FKind.Formats .f32)
    (hacc : (0x00000000#32 : BitVec 32) = FKind.add.neutral .f32 hφ) (i : Fin M) :
    multiReduction .add [1] ⟨1, ![M]⟩ x 0x00000000#32 h hφ hacc (ix1 i) = ∑ k : Fin D, x (ix2 i k) :=
  (Ideal.multiReduction_add_single x _ h hφ hacc (ix1 i)).trans (Finset.sum_congr rfl fun k _ => congrArg x (lift_eq h i k))

theorem max_apply (x : FVec Ideal ⟨2, ![M, D]⟩ .f32) (h : (⟨2, ![M, D]⟩ : Shape).Reduces [1] ⟨1, ![M]⟩) (hφ : FKind.Formats .f32)
    (hacc : (0xFF800000#32 : BitVec 32) = FKind.maximumf.neutral .f32 hφ) (i : Fin M) :
    multiReduction .maximumf [1] ⟨1, ![M]⟩ x 0xFF800000#32 h hφ hacc (ix1 i)
      = (Finset.univ : Finset (Fin D)).fold max (Ideal.ofBits .f32 0xFF800000#32) (fun k => x (ix2 i k)) :=
  (Ideal.multiReduction_maximumf_single x _ h hφ hacc (ix1 i)).trans
    (congrArg (Finset.fold max _ · Finset.univ) (funext fun k => congrArg x (lift_eq h i k)))

/-- A column broadcast along the rows, and a row broadcast down the columns. -/
theorem down_apply {φ : FTy} (v : FVec Ideal ⟨2, ![M, 1]⟩ φ) (h : (⟨2, ![M, 1]⟩ : Shape).Broadcasts ⟨2, ![M, D]⟩) (i : Fin M)
    (k : Fin D) : broadcastTo ⟨2, ![M, D]⟩ v h (ix2 i k) = v (ix2 i 0) :=
  broadcastTo_apply v h (ix2 i k) (ix2 i 0) (fun x => by
    match x with
    | ⟨0, _⟩ => show i.val = if M = 1 then 0 else i.val; split <;> omega
    | ⟨1, _⟩ => rfl)
theorem across_apply {φ : FTy} (v : FVec Ideal ⟨2, ![1, D]⟩ φ) (h : (⟨2, ![1, D]⟩ : Shape).Broadcasts ⟨2, ![M, D]⟩) (i : Fin M)
    (k : Fin D) : broadcastTo ⟨2, ![M, D]⟩ v h (ix2 i k) = v (ix2 0 k) :=
  broadcastTo_apply v h (ix2 i k) (ix2 0 k) (fun x => by
    match x with
    | ⟨0, _⟩ => rfl
    | ⟨1, _⟩ => show k.val = if D = 1 then 0 else k.val; split <;> omega)

/-- The normalised rows. -/
theorem normed_apply (X : FVec Ideal ⟨2, ![M, D]⟩ .bf16) (G : FVec Ideal ⟨2, ![1, D]⟩ .bf16)
    (hb : FTy.bf16.bits < FTy.f32.bits) (hr : (⟨2, ![M, D]⟩ : Shape).Reduces [1] ⟨1, ![M]⟩) (hφ : FKind.Formats .f32)
    (hacc : (0x00000000#32 : BitVec 32) = FKind.add.neutral .f32 hφ) (hc : (⟨1, ![M]⟩ : Shape).ShapeCasts ⟨2, ![M, 1]⟩)
    (hd : (⟨2, ![M, 1]⟩ : Shape).Broadcasts ⟨2, ![M, D]⟩) (ha : (⟨2, ![1, D]⟩ : Shape).Broadcasts ⟨2, ![M, D]⟩)
    (i : Fin M) (k : Fin D) :
    mulf (mulf (extf .f32 X hb) (broadcastTo ⟨2, ![M, D]⟩ (rsqrt (addf (divf (shapeCast ⟨2, ![M, 1]⟩
        (multiReduction .add [1] ⟨1, ![M]⟩ (mulf (extf .f32 X hb) (extf .f32 X hb)) 0x00000000#32 hr hφ hacc) hc)
        (broadcast ⟨2, ![M, 1]⟩ (Scalar.ofBits .f32 0x46950000#32))) (broadcast ⟨2, ![M, 1]⟩ (Scalar.ofBits .f32 0x3727C5AC#32)))) hd))
      (broadcastTo ⟨2, ![M, D]⟩ (extf .f32 G hb) ha) (ix2 i k) = normed (rowOf X i) (gains G) k := by
  rw [mulf_apply, mulf_apply, down_apply, across_apply, extf_apply, extf_apply]
  show X (ix2 i k) * Ideal.rsqrt (Ideal.div (shapeCast ⟨2, ![M, 1]⟩ _ hc (ix2 i 0)) (Ideal.ofBits .f32 0x46950000#32)
    + Ideal.ofBits .f32 0x3727C5AC#32) * G (ix2 0 k) = _
  rw [column_apply, sum_apply]
  rfl

/-- Each row's largest magnitude. -/
theorem amax_apply (N : FVec Ideal ⟨2, ![M, D]⟩ .f32) (h g : Fin D → EReal) (i : Fin M)
    (hN : ∀ k, N (ix2 i k) = normed h g k) (hr : (⟨2, ![M, D]⟩ : Shape).Reduces [1] ⟨1, ![M]⟩) (hφ : FKind.Formats .f32)
    (hacc : (0xFF800000#32 : BitVec 32) = FKind.maximumf.neutral .f32 hφ) (hc : (⟨1, ![M]⟩ : Shape).ShapeCasts ⟨2, ![M, 1]⟩) :
    mulf (shapeCast ⟨2, ![M, 1]⟩ (multiReduction .maximumf [1] ⟨1, ![M]⟩ (absf N) 0xFF800000#32 hr hφ hacc) hc)
      (broadcast ⟨2, ![M, 1]⟩ (Scalar.ofBits .f32 0x3B124925#32)) (ix2 i 0) = amax h g := by
  rw [mulf_apply, column_apply, max_apply]
  have e : (fun k => absf N (ix2 i k)) = fun k => max (normed h g k) (-normed h g k) := funext fun k => by
    rw [← hN k]; rfl
  rw [e]
  rfl

/-! ## The two results, by the kernel's scale and by the reference's -/

/-- The codes and the scales of an array of rows, with the scale the kernel takes from the gains as one row, -/
def codesK (X : FVec Ideal ⟨2, ![M, D]⟩ .bf16) (G : FVec Ideal ⟨2, ![1, D]⟩ .bf16) : FVec Ideal ⟨2, ![M, D]⟩ .fp8e4m3 := fun y =>
  code (normed (rowOf X (y 0)) (gains G) (y 1)) (kinv (amax (rowOf X (y 0)) (gains G)))
def scalesK (X : FVec Ideal ⟨2, ![M, D]⟩ .bf16) (G : FVec Ideal ⟨2, ![1, D]⟩ .bf16) : FVec Ideal ⟨2, ![M, 1]⟩ .f32 := fun y =>
  kscale (amax (rowOf X (y 0)) (gains G))

/-- and with the scale the reference takes from the gains as a list. -/
def listed (g : FVec Ideal ⟨1, ![D]⟩ .bf16) : Fin D → EReal := fun k => g (ix1 k)
def codesR (X : FVec Ideal ⟨2, ![M, D]⟩ .bf16) (g : FVec Ideal ⟨1, ![D]⟩ .bf16) : FVec Ideal ⟨2, ![M, D]⟩ .fp8e4m3 := fun y =>
  code (normed (rowOf X (y 0)) (listed g) (y 1)) (rinv (amax (rowOf X (y 0)) (listed g)))
def scalesR (X : FVec Ideal ⟨2, ![M, D]⟩ .bf16) (g : FVec Ideal ⟨1, ![D]⟩ .bf16) : FVec Ideal ⟨2, ![M, 1]⟩ .f32 := fun y =>
  rscale (amax (rowOf X (y 0)) (listed g))

/-- A list cast to one row, entry by entry. -/
theorem row_apply {φ : FTy} (v : FVec Ideal ⟨1, ![D]⟩ φ) (h : (⟨1, ![D]⟩ : Shape).ShapeCasts ⟨2, ![1, D]⟩) (k : Fin D) :
    shapeCast ⟨2, ![1, D]⟩ v h (ix2 0 k) = v (ix1 k) := by
  unfold shapeCast
  refine congrArg v (Shape.reshapeEquiv_eq_of_rowMajor _ ?_)
  show (Shape.rowMajorPi ![D] (ix1 k)).val = (Shape.rowMajorPi ![1, D] (ix2 0 k)).val
  rw [Shape.rowMajorPi_succ_val, Shape.rowMajorPi_succ_val, Shape.rowMajorPi_succ_val]
  simp [Shape.rowMajorPi, Shape.rankPi]
theorem gains_row (g : FVec Ideal ⟨1, ![D]⟩ .bf16) (h : (⟨1, ![D]⟩ : Shape).ShapeCasts ⟨2, ![1, D]⟩) :
    gains (shapeCast ⟨2, ![1, D]⟩ g h) = listed g := funext fun k => row_apply g h k

/-- With every row's magnitude in range they are the same. -/
theorem codes_eq (X : FVec Ideal ⟨2, ![M, D]⟩ .bf16) (g : FVec Ideal ⟨1, ![D]⟩ .bf16)
    (h : (⟨1, ![D]⟩ : Shape).ShapeCasts ⟨2, ![1, D]⟩) (ha : ∀ i, InRange (amax (rowOf X i) (listed g))) :
    codesK X (shapeCast ⟨2, ![1, D]⟩ g h) = codesR X g := by
  funext y
  unfold codesK codesR
  rw [gains_row, (scale_eq (ha (y 0))).2]
theorem scales_eq (X : FVec Ideal ⟨2, ![M, D]⟩ .bf16) (g : FVec Ideal ⟨1, ![D]⟩ .bf16)
    (h : (⟨1, ![D]⟩ : Shape).ShapeCasts ⟨2, ![1, D]⟩) (ha : ∀ i, InRange (amax (rowOf X i) (listed g))) :
    scalesK X (shapeCast ⟨2, ![1, D]⟩ g h) = scalesR X g := by
  funext y
  unfold scalesK scalesR
  rw [gains_row, (scale_eq (ha (y 0))).1]

end Cert.Norm

end
-- ==== Proof.Norm.IdealValue.lean ====
/-
  The output blocks of the norm kernel over the reals: the codes and the scales of the block's rows.
-/
module

public import proofs.«01_k».proof.Proof.Gen.NormIdeal.Frame
public import proofs.«01_k».proof.Proof.Norm.Tile
public import Idealize.ShloMosaic.Lib.Pipeline.ValueKit.Tiles

@[expose] public section

set_option maxRecDepth 16384

noncomputable section

namespace Cert.NormIdeal.Body

open Cert.NormIdeal Cert.NormIdeal.Gen Cert.Norm
open Idealize.ShloMosaic Idealize.ShloMosaic.ValueIdx

variable (x0 : Vec Ideal S128x19072 .bf16) (x1 : Vec Ideal S1x19072 .bf16)

/-- The normalised rows, -/
theorem pay3_apply (i : Fin 128) (k : Fin 19072) : k0_pay3 (F := Ideal) x0 x1 (ix2 i k) = normed (rowOf x0 i) (gains x1) k := by
  unfold k0_pay3
  simp only [shapeCast_self]
  exact normed_apply x0 x1 _ _ _ _ _ _ _ i k

/-- each row's largest magnitude, -/
theorem pay4_apply (i : Fin 128) : k0_pay4 (F := Ideal) x0 x1 (ix2 i 0) = amax (rowOf x0 i) (gains x1) := by
  unfold k0_pay4
  exact amax_apply (k0_pay3 (F := Ideal) x0 x1) _ _ i (pay3_apply x0 x1 i) _ _ _ _

/-! ### The search on a column of magnitudes -/

/-- One step, as the kernel's operations on the column. -/
def growV (A : FVec Ideal S128x1 .f32) (b : BitVec 32) (f : IVec S128x1 32) : IVec S128x1 32 :=
  select (cmpf .olt A (bitcastToFloat .f32 (shli (addi f (broadcast S128x1 b)) (broadcast S128x1 23#32)))) f (addi f (broadcast S128x1 b))

theorem growV_apply (A : FVec Ideal S128x1 .f32) (b : BitVec 32) (f : IVec S128x1 32) (j : S128x1.Idx) :
    growV A b f j = grow (A j) b (f j) := rfl

/-- The exponents, as the kernel's operations on the column. -/
def expV (A : FVec Ideal S128x1 .f32) : IVec S128x1 32 :=
  select (cmpf .oeq A (broadcast S128x1 (Scalar.ofBits .f32 0x00000000#32))) (broadcast S128x1 0#32)
    (subi (growV A 1#32 (growV A 2#32 (growV A 4#32 (growV A 8#32 (growV A 16#32 (growV A 32#32 (growV A 64#32
      (growV A 128#32 (broadcast S128x1 0#32))))))))) (broadcast S128x1 126#32))

theorem expV_apply (A : FVec Ideal S128x1 .f32) (j : S128x1.Idx) : expV A j = kexp (A j) := by
  have h : ∀ f : IVec S128x1 32, (select (cmpf .oeq A (broadcast S128x1 (Scalar.ofBits .f32 0x00000000#32))) (broadcast S128x1 0#32)
      (subi f (broadcast S128x1 126#32)) : IVec S128x1 32) j
      = Scalar.select (Ideal.cmp .oeq (A j) (Ideal.ofBits .f32 0#32)) 0#32 (f j - 126#32) := fun f => rfl
  unfold expV
  rw [h]
  unfold kexp field
  iterate 8 rw [growV_apply]
  rfl

theorem pay5_eq : k0_pay5 (F := Ideal) x0 x1 = growV (k0_pay4 x0 x1) 64#32 (growV (k0_pay4 x0 x1) 128#32 (broadcast S128x1 0#32)) := by
  unfold k0_pay5 growV
  with_reducible rfl
theorem pay6_eq : k0_pay6 (F := Ideal) x0 x1 = addi (k0_pay5 (F := Ideal) x0 x1) (broadcast S128x1 32#32) := by
  unfold k0_pay6
  with_reducible rfl
theorem pay7_eq : k0_pay7 (F := Ideal) x0 x1
    = cmpf .olt (k0_pay4 x0 x1) (bitcastToFloat .f32 (shli (k0_pay6 (F := Ideal) x0 x1) (broadcast S128x1 23#32))) := by
  unfold k0_pay7
  with_reducible rfl
theorem pay8_eq (A : FVec Ideal S128x1 .f32) (v36 v38 : IVec S128x1 32) (v42 : IVec S128x1 1) :
    k0_pay8 (F := Ideal) A v36 v38 v42
      = select (cmpf .oeq A (broadcast S128x1 (Scalar.ofBits .f32 0x00000000#32))) (broadcast S128x1 0#32)
        (subi (growV A 1#32 (growV A 2#32 (growV A 4#32 (growV A 8#32 (growV A 16#32 (select v42 v36 v38)))))) (broadcast S128x1 126#32)) := by
  unfold k0_pay8 growV
  with_reducible rfl

/-- The kernel's exponents are the search's. -/
theorem exponent_eq : k0_pay8 (F := Ideal) (k0_pay4 x0 x1) (k0_pay5 x0 x1) (k0_pay6 x0 x1) (k0_pay7 x0 x1) = expV (k0_pay4 x0 x1) := by
  rw [pay8_eq, pay7_eq, pay6_eq, pay5_eq]
  unfold expV
  congr 8

theorem exponent_apply (i : Fin 128) : k0_pay8 (F := Ideal) (k0_pay4 x0 x1) (k0_pay5 x0 x1) (k0_pay6 x0 x1) (k0_pay7 x0 x1) (ix2 i 0)
    = kexp (amax (rowOf x0 i) (gains x1)) := by
  rw [exponent_eq, expV_apply, pay4_apply]

/-! ### The two blocks -/

/-- A code from a normalised entry and its row's exponent, -/
theorem pay2_apply (N : FVec Ideal S128x19072 .f32) (E : IVec S128x1 32) (i : Fin 128) (k : Fin 19072) :
    k0_pay2 (F := Ideal) N E (ix2 i k) = code (N (ix2 i k)) (power (127#32 - E (ix2 i 0))) := by
  unfold k0_pay2
  rw [truncf_apply]
  show min _ (max _ (N (ix2 i k) * broadcastTo S128x19072 _ _ (ix2 i k))) = _
  rw [down_apply]
  rfl

/-- and a scale from a row's exponent. -/
theorem pay1_apply (A : FVec Ideal S128x1 .f32) (v36 v38 : IVec S128x1 32) (v42 : IVec S128x1 1) (j : S128x1.Idx) :
    k0_pay1 (F := Ideal) (k0_pay9 (F := Ideal) A v36 v38 v42) k0_pay10 j = power (k0_pay8 (F := Ideal) A v36 v38 v42 j + 127#32) := by
  unfold k0_pay1 k0_pay9 k0_pay10
  generalize k0_pay8 (F := Ideal) A v36 v38 v42 = E
  rfl

/-- The codes' block, -/
theorem codes_block : k0_pay2 (F := Ideal) (k0_pay3 x0 x1) (k0_pay8 (k0_pay4 x0 x1) (k0_pay5 x0 x1) (k0_pay6 x0 x1) (k0_pay7 x0 x1))
    = codesK x0 x1 := by
  funext y
  obtain ⟨i, k, rfl⟩ : ∃ i k, y = ix2 i k := ⟨y 0, y 1, eq_ix2 y⟩
  rw [pay2_apply, exponent_apply, pay3_apply]
  unfold codesK kinv
  with_reducible rfl

/-- and the scales'. -/
theorem scales_block : k0_pay1 (F := Ideal) (k0_pay9 (k0_pay4 x0 x1) (k0_pay5 x0 x1) (k0_pay6 x0 x1) (k0_pay7 x0 x1)) k0_pay10
    = scalesK x0 x1 := by
  funext y
  obtain ⟨i, k, rfl⟩ : ∃ i k, y = ix2 i k := ⟨y 0, y 1, eq_ix2 y⟩
  obtain rfl : k = 0 := Subsingleton.elim _ _
  rw [pay1_apply, exponent_apply]
  unfold scalesK kscale
  with_reducible rfl

theorem hz : (![0, 0] : Fin 2 → ℕ) = fun _ => 0 := by funext a; match a with | ⟨0, _⟩ => rfl | ⟨1, _⟩ => rfl

/-- The buffers after the body, from the input blocks: each is written once, whole. -/
theorem out2_eq : out0_2 x0 x1 = codesK x0 x1 := by
  unfold_out out0_2
  rw [View.ld_unit_zero (S := S128x19072) hz, View.ld_unit_zero (S := S1x19072) hz, codes_block]
  exact View.canon_unit_zero (S := S128x19072) hz _ _
theorem out3_eq : out0_3 x0 x1 = scalesK x0 x1 := by
  unfold_out out0_3
  rw [View.ld_unit_zero (S := S128x19072) hz, View.ld_unit_zero (S := S1x19072) hz, scales_block]
  exact View.canon_unit_zero (S := S128x1) hz _ _

end Cert.NormIdeal.Body

end
-- ==== Proof.Norm.IdealFinal.lean ====
/-
  The two result arrays of the norm kernel over the reals. Every point writes back its 128 rows of the codes and of the
  scales, and those rows depend on the same rows of `h` only; the blocks cover the results.
-/
module

public import proofs.«01_k».proof.Proof.Norm.IdealValue
public import Idealize.ShloMosaic.Lib.Pipeline.ValueKit.Geometry

@[expose] public section

set_option maxRecDepth 16384

noncomputable section

namespace Cert.NormIdeal.Body

open Cert.NormIdeal Cert.NormIdeal.Gen Cert.Norm
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-- The gains as the call reads them: one row. -/
theorem V_main_v0 (c : Dev nD) : V m c main_v0 = shapeCast S1x19072 (m ((c : Thread nD τ).loc main_arg1)) shapeCasts_S19072_S1x19072 := by
  show StableHlo.after hostOps0 _ (Proc.devRef .tc main_v0) = _
  after_results
  rfl

/-- Which block each window holds at a point, against the outputs': the same rows of `h`, and all the gains. -/
theorem index_eq : ∀ t : Fin cfg0.N, win0_0.index t 0 = t.val ∧ win0_0.index t 1 = 0 ∧ win0_1.index t 0 = 0 ∧ win0_1.index t 1 = 0
    ∧ win0_2.index t 0 = t.val ∧ win0_2.index t 1 = 0 ∧ win0_3.index t 0 = t.val ∧ win0_3.index t 1 = 0 :=
  (by decide +kernel : ∀ t : Fin grid0.N, _)

/-- A block's row is the array's row at the block's offset, -/
theorem row_eq (c : Dev nD) (t : Fin cfg0.N) (i : Fin 128) (r : Fin 8192) (h : r.val = t.val * 128 + i.val) :
    rowOf (iblk m c 0 t) i = rowOf (V m c main_arg0) r := by
  funext k
  show V m c main_arg0 ((win0_0.blk t).view.emb (ix2 i k)) = V m c main_arg0 (ix2 r k)
  refine congrArg _ (funext fun a => Fin.ext ((win0_0.rect_emb_val t _ a).trans ?_))
  obtain ⟨i0, i1, -⟩ := index_eq t
  match a with
  | ⟨0, _⟩ => show win0_0.index t 0 * 128 + i.val = r.val; rw [i0, h]
  | ⟨1, _⟩ => show win0_0.index t 1 * 19072 + k.val = k.val; rw [i1]; omega

/-- and the gains are all of them. -/
theorem gains_eq (c : Dev nD) (t : Fin cfg0.N) : gains (iblk m c 1 t) = gains (V m c main_v0) := by
  funext k
  show V m c main_v0 ((win0_1.blk t).view.emb (ix2 0 k)) = V m c main_v0 (ix2 0 k)
  refine congrArg _ (funext fun a => Fin.ext ((win0_1.rect_emb_val t _ a).trans ?_))
  obtain ⟨-, -, i0, i1, -⟩ := index_eq t
  match a with
  | ⟨0, _⟩ => show win0_1.index t 0 * 1 + 0 = 0; rw [i0]
  | ⟨1, _⟩ => show win0_1.index t 1 * 19072 + k.val = k.val; rw [i1]; omega

/-- What a point writes back is its block of the whole result. -/
theorem codes_at (c : Dev nD) (t : Fin cfg0.N) (y : (win0_2.xblock (grid0.coords t)).Idx) :
    codesK (iblk m c 0 t) (iblk m c 1 t) (win0_2.xinj (grid0.coords t) y) = codesK (V m c main_arg0) (V m c main_v0) ((win0_2.blk t).view.emb y) := by
  obtain ⟨-, -, -, -, i0, i1, -⟩ := index_eq t
  have e0 : ((win0_2.blk t).view.emb y 0).val = t.val * 128 + (y 0).val := by
    rw [← i0]; exact win0_2.rect_emb_val t y 0
  have e1 : ((win0_2.blk t).view.emb y 1) = win0_2.xinj (grid0.coords t) y 1 := by
    refine Fin.ext ((win0_2.rect_emb_val t y 1).trans ?_)
    show win0_2.index t 1 * 19072 + (y 1).val = (y 1).val
    rw [i1]; omega
  unfold codesK
  rw [row_eq m c t _ _ e0, gains_eq, e1]
theorem scales_at (c : Dev nD) (t : Fin cfg0.N) (y : (win0_3.xblock (grid0.coords t)).Idx) :
    scalesK (iblk m c 0 t) (iblk m c 1 t) (win0_3.xinj (grid0.coords t) y) = scalesK (V m c main_arg0) (V m c main_v0) ((win0_3.blk t).view.emb y) := by
  obtain ⟨-, -, -, -, -, -, i0, i1⟩ := index_eq t
  have e0 : ((win0_3.blk t).view.emb y 0).val = t.val * 128 + (y 0).val := by
    rw [← i0]; exact win0_3.rect_emb_val t y 0
  unfold scalesK
  rw [row_eq m c t _ _ e0, gains_eq]

theorem covers2 : (cfg0.win 2).Covers := by decide +kernel
theorem covers3 : (cfg0.win 3).Covers := by decide +kernel

theorem after2 (c : Dev nD) (t : Fin cfg0.N) : (dats m 0 c).after 2 t = codesK (iblk m c 0 t) (iblk m c 1 t) :=
  (after0_2 m c t).trans (out2_eq _ _)
theorem after3 (c : Dev nD) (t : Fin cfg0.N) : (dats m 0 c).after 3 t = scalesK (iblk m c 0 t) (iblk m c 1 t) :=
  (after0_3 m c t).trans (out3_eq _ _)

/-- The result arrays after the run, over the arrays the call reads, -/
theorem codes_V (c : Dev nD) : (dats m 0 c).arrAt 2 cfg0.N = codesK (V m c main_arg0) (V m c main_v0) :=
  (dats m 0 c).arrAt_eq_of_covers 2 _ covers2 fun t hf y => by
    refine (cast_eq _ _).trans ?_
    exact (congrFun (after2 m c t) _).trans (codes_at m c t y)
theorem scales_V (c : Dev nD) : (dats m 0 c).arrAt 3 cfg0.N = scalesK (V m c main_arg0) (V m c main_v0) :=
  (dats m 0 c).arrAt_eq_of_covers 3 _ covers3 fun t hf y => by
    refine (cast_eq _ _).trans ?_
    exact (congrFun (after3 m c t) _).trans (scales_at m c t y)

/-- and over the arguments. -/
theorem codes (c : Dev nD) : (dats m 0 c).arrAt 2 cfg0.N = codesK (m ((c : Thread nD τ).loc main_arg0))
    (shapeCast S1x19072 (m ((c : Thread nD τ).loc main_arg1)) shapeCasts_S19072_S1x19072) := by
  rw [codes_V, V_main_v0, V_main_arg0]
theorem scales (c : Dev nD) : (dats m 0 c).arrAt 3 cfg0.N = scalesK (m ((c : Thread nD τ).loc main_arg0))
    (shapeCast S1x19072 (m ((c : Thread nD τ).loc main_arg1)) shapeCasts_S19072_S1x19072) := by
  rw [scales_V, V_main_v0, V_main_arg0]

/-- The run with its results named and the arguments unchanged. -/
theorem run_value : θ_run defs (onTc (τ := τ) (main (F := Ideal))) ⟨m, fun _ => 0, ρ⟩ fun r => ∀ c : Dev nD,
      r.2.mem ((c.tc : Thread nD τ).loc main_v1_0) = codesK (m ((c.tc : Thread nD τ).loc main_arg0))
        (shapeCast S1x19072 (m ((c.tc : Thread nD τ).loc main_arg1)) shapeCasts_S19072_S1x19072)
      ∧ r.2.mem ((c.tc : Thread nD τ).loc main_v1_1) = scalesK (m ((c.tc : Thread nD τ).loc main_arg0))
        (shapeCast S1x19072 (m ((c.tc : Thread nD τ).loc main_arg1)) shapeCasts_S19072_S1x19072)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).1 2).trans (codes m c), ((h c).1 3).trans (scales m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

end Cert.NormIdeal.Body

end
-- ==== Proof.Norm.Host.lean ====
/-
  The reference's operations on whole arrays, entry by entry: the normalised rows, each row's largest magnitude and each
  row's exponent are `normed`, `amax` and `rexp` of that row, whatever the number of rows.
-/
module

public import proofs.«01_k».proof.Proof.Norm.Tile
public import Idealize.ShloMosaic.Lib.StableHlo
public import Idealize.ShloMosaic.PureOps.Reduce

@[expose] public section

noncomputable section

open scoped BigOperators

namespace Cert.Norm

open Idealize.ShloMosaic Idealize.ShloMosaic.ValueIdx

variable {M D : ℕ}

/-- The shape relations the operations take. -/
structure HostFacts (M D : ℕ) : Prop where
  wide : FTy.bf16.bits < FTy.f32.bits
  rows : (⟨2, ![M, D]⟩ : Shape).ReducesTo [1] ⟨1, ![M]⟩
  row : (⟨2, ![M, D]⟩ : Shape).Reduces [1] ⟨1, ![M]⟩
  unit : 0 < (⟨0, ![]⟩ : Shape).numel
  col : (⟨1, ![M]⟩ : Shape).BroadcastsInDim ⟨2, ![M, 1]⟩ ![0]
  splat : (⟨0, ![]⟩ : Shape).BroadcastsInDim ⟨2, ![M, 1]⟩ ![]
  down : (⟨2, ![M, 1]⟩ : Shape).BroadcastsInDim ⟨2, ![M, D]⟩ ![0, 1]
  line : (⟨1, ![D]⟩ : Shape).BroadcastsInDim ⟨2, ![1, D]⟩ ![1]
  across : (⟨2, ![1, D]⟩ : Shape).BroadcastsInDim ⟨2, ![M, D]⟩ ![0, 1]

/-- A column of one number, -/
def hostSplat (f : HostFacts M D) (b : BitVec 32) : FVec Ideal ⟨2, ![M, 1]⟩ .f32 :=
  broadcastInDim ⟨2, ![M, 1]⟩ ![] f.splat (constant ⟨0, ![]⟩ .f32 b)

/-- the normalised rows, -/
def hostNormed (f : HostFacts M D) (X : FVec Ideal ⟨2, ![M, D]⟩ .bf16) (g : FVec Ideal ⟨1, ![D]⟩ .bf16) :
    FVec Ideal ⟨2, ![M, D]⟩ .f32 :=
  mulf (mulf (extf .f32 X f.wide) (broadcastInDim ⟨2, ![M, D]⟩ ![0, 1] f.down (Host.rsqrt (addf (Host.divf
      (broadcastInDim ⟨2, ![M, 1]⟩ ![0] f.col (Host.reduceAdd (mulf (extf .f32 X f.wide) (extf .f32 X f.wide))
        (constant ⟨0, ![]⟩ .f32 0x00000000#32) f.rows f.unit)) (hostSplat f 0x46950000#32)) (hostSplat f 0x3727C5AC#32)))))
    (broadcastInDim ⟨2, ![M, D]⟩ ![0, 1] f.across (broadcastInDim ⟨2, ![1, D]⟩ ![1] f.line (extf .f32 g f.wide)))

/-- each row's largest magnitude, -/
def hostAmax (f : HostFacts M D) (N : FVec Ideal ⟨2, ![M, D]⟩ .f32) : FVec Ideal ⟨2, ![M, 1]⟩ .f32 :=
  mulf (broadcastInDim ⟨2, ![M, 1]⟩ ![0] f.col (Host.reduce FloatOps.maximumf (Host.absf N)
    (constant ⟨0, ![]⟩ .f32 0xFF800000#32) f.rows f.unit)) (hostSplat f 0x3B124925#32)

/-- and each row's exponent. -/
def hostExp (f : HostFacts M D) (A : FVec Ideal ⟨2, ![M, 1]⟩ .f32) : FVec Ideal ⟨2, ![M, 1]⟩ .f32 :=
  select (cmpf .oeq A (hostSplat f 0x00000000#32)) (hostSplat f 0x00000000#32)
    (addf (Host.floor (Host.divf (Host.log A) (Host.log (hostSplat f 0x40000000#32)))) (hostSplat f 0x3F800000#32))

theorem hostSplat_apply (f : HostFacts M D) (b : BitVec 32) (j : (⟨2, ![M, 1]⟩ : Shape).Idx) :
    hostSplat f b j = Ideal.ofBits .f32 b := rfl

/-- A list as a column, a column along the rows, a list as one row, and one row down the columns. -/
theorem col_apply {φ : FTy} (v : FVec Ideal ⟨1, ![M]⟩ φ) (h : (⟨1, ![M]⟩ : Shape).BroadcastsInDim ⟨2, ![M, 1]⟩ ![0]) (i : Fin M) :
    broadcastInDim ⟨2, ![M, 1]⟩ ![0] h v (ix2 i 0) = v (ix1 i) :=
  broadcastInDim_apply _ h v (ix2 i 0) (ix1 i) (fun x => by
    match x with
    | ⟨0, _⟩ => show i.val = if M = 1 then 0 else i.val; split <;> omega)
theorem hostDown_apply {φ : FTy} (v : FVec Ideal ⟨2, ![M, 1]⟩ φ) (h : (⟨2, ![M, 1]⟩ : Shape).BroadcastsInDim ⟨2, ![M, D]⟩ ![0, 1])
    (i : Fin M) (k : Fin D) : broadcastInDim ⟨2, ![M, D]⟩ ![0, 1] h v (ix2 i k) = v (ix2 i 0) :=
  broadcastInDim_apply _ h v (ix2 i k) (ix2 i 0) (fun x => by
    match x with
    | ⟨0, _⟩ => show i.val = if M = 1 then 0 else i.val; split <;> omega
    | ⟨1, _⟩ => rfl)
theorem line_apply {φ : FTy} (v : FVec Ideal ⟨1, ![D]⟩ φ) (h : (⟨1, ![D]⟩ : Shape).BroadcastsInDim ⟨2, ![1, D]⟩ ![1]) (k : Fin D) :
    broadcastInDim ⟨2, ![1, D]⟩ ![1] h v (ix2 0 k) = v (ix1 k) :=
  broadcastInDim_apply _ h v (ix2 0 k) (ix1 k) (fun x => by
    match x with
    | ⟨0, _⟩ => show k.val = if D = 1 then 0 else k.val; split <;> omega)
theorem hostAcross_apply {φ : FTy} (v : FVec Ideal ⟨2, ![1, D]⟩ φ) (h : (⟨2, ![1, D]⟩ : Shape).BroadcastsInDim ⟨2, ![M, D]⟩ ![0, 1])
    (i : Fin M) (k : Fin D) : broadcastInDim ⟨2, ![M, D]⟩ ![0, 1] h v (ix2 i k) = v (ix2 0 k) :=
  broadcastInDim_apply _ h v (ix2 i k) (ix2 0 k) (fun x => by
    match x with
    | ⟨0, _⟩ => rfl
    | ⟨1, _⟩ => show k.val = if D = 1 then 0 else k.val; split <;> omega)

/-- The sum and the maximum along a row. -/
theorem hostSum_apply (f : HostFacts M D) (x : FVec Ideal ⟨2, ![M, D]⟩ .f32) (i : Fin M) :
    Host.reduceAdd x (constant ⟨0, ![]⟩ .f32 0x00000000#32) f.rows f.unit (ix1 i) = ∑ k : Fin D, x (ix2 i k) := by
  refine (Ideal.hostReduceAdd_single f.rows f.row x (Ideal.ofBits .f32 0x00000000#32) (ix1 i)).trans ?_
  rw [Ideal.ofBits_zero_f32, zero_add]
  exact Finset.sum_congr rfl fun k _ => congrArg x (lift_eq f.row i k)
theorem hostMax_apply (f : HostFacts M D) (x : FVec Ideal ⟨2, ![M, D]⟩ .f32) (i : Fin M) :
    Host.reduce FloatOps.maximumf x (constant ⟨0, ![]⟩ .f32 0xFF800000#32) f.rows f.unit (ix1 i)
      = (Finset.univ : Finset (Fin D)).fold max (Ideal.ofBits .f32 0xFF800000#32) (fun k => x (ix2 i k)) :=
  (Host.reduce_eq_fold_single FloatOps.maximumf x _ f.rows f.row f.unit (ix1 i)).trans
    (congrArg (Finset.fold max _ · Finset.univ) (funext fun k => congrArg x (lift_eq f.row i k)))

/-- The reciprocal roots, from a column of sums of squares. -/
theorem hostRms_apply (f : HostFacts M D) (C : FVec Ideal ⟨2, ![M, 1]⟩ .f32) (j : (⟨2, ![M, 1]⟩ : Shape).Idx) :
    Host.rsqrt (addf (Host.divf C (hostSplat f 0x46950000#32)) (hostSplat f 0x3727C5AC#32)) j
      = Ideal.rsqrt (Ideal.div (C j) (Ideal.ofBits .f32 0x46950000#32) + Ideal.ofBits .f32 0x3727C5AC#32) := rfl

/-- The normalised rows, -/
theorem hostNormed_apply (f : HostFacts M D) (X : FVec Ideal ⟨2, ![M, D]⟩ .bf16) (g : FVec Ideal ⟨1, ![D]⟩ .bf16) (i : Fin M)
    (k : Fin D) : hostNormed f X g (ix2 i k) = normed (rowOf X i) (listed g) k := by
  unfold hostNormed
  rw [mulf_apply, mulf_apply, hostDown_apply, hostAcross_apply, line_apply, extf_apply, extf_apply]
  rw [hostRms_apply, col_apply, hostSum_apply f]
  rfl

/-- each row's largest magnitude, -/
theorem hostAmax_apply (f : HostFacts M D) (X : FVec Ideal ⟨2, ![M, D]⟩ .bf16) (g : FVec Ideal ⟨1, ![D]⟩ .bf16) (i : Fin M) :
    hostAmax f (hostNormed f X g) (ix2 i 0) = amax (rowOf X i) (listed g) := by
  unfold hostAmax
  rw [mulf_apply, col_apply, hostMax_apply f, hostSplat_apply]
  have e : (fun k => Host.absf (hostNormed f X g) (ix2 i k))
      = fun k => max (normed (rowOf X i) (listed g) k) (-normed (rowOf X i) (listed g) k) := funext fun k => by
    rw [← hostNormed_apply f X g i k]; rfl
  rw [e]
  rfl

/-- and each row's exponent. -/
theorem hostExp_apply (f : HostFacts M D) (A : FVec Ideal ⟨2, ![M, 1]⟩ .f32) (j : (⟨2, ![M, 1]⟩ : Shape).Idx) :
    hostExp f A j = rexp (A j) := rfl

end Cert.Norm

end
-- ==== Proof.Norm.ReferenceFinal.lean ====
/-
  The norm reference's two results over the reals: its host operations, named, are the codes and the scales of all rows.
-/
module

public import proofs.«01_k».proof.Proof.Gen.NormReferenceIdeal.Run
public import proofs.«01_k».proof.Proof.Norm.Host

@[expose] public section

noncomputable section

namespace Cert.NormReferenceIdeal.Body

open Cert.NormReferenceIdeal Cert.NormReferenceIdeal.Gen Cert.Norm
open Idealize.ShloMosaic Idealize.ShloMosaic.TcCoe Idealize.ShloMosaic.ValueIdx
open Idealize.SL.Sem

/-- The shape relations of the reference's operations. -/
theorem host : HostFacts 8192 19072 where
  wide := by decide
  rows := facts.reducesTo_S8192x19072_S8192_d1
  row := by decide
  unit := facts.h_S_
  col := facts.bcast_S8192_S8192x1_0
  splat := facts.bcast_S_S8192x1
  down := facts.bcast_S8192x1_S8192x19072_0_1
  line := facts.bcast_S19072_S1x19072_1
  across := facts.bcast_S1x19072_S8192x19072_0_1

/-- The clipped codes from the normalised rows and the exponents, -/
def clipV (N : FVec Ideal S8192x19072 .f32) (E : FVec Ideal S8192x1 .f32) : FVec Ideal S8192x19072 .fp8e4m3 :=
  Host.convertf .fp8e4m3 (minimumf (broadcastInDim S8192x19072 ![] facts.bcast_S_S8192x19072 (constant S_ .f32 0x43E00000#32))
    (maximumf (broadcastInDim S8192x19072 ![] facts.bcast_S_S8192x19072 (constant S_ .f32 0xC3E00000#32))
      (mulf N (broadcastInDim S8192x19072 ![0, 1] host.down (Host.powf (hostSplat host 0x40000000#32) (Host.negf E))))))
theorem clipV_apply (N : FVec Ideal S8192x19072 .f32) (E : FVec Ideal S8192x1 .f32) (i : Fin 8192) (k : Fin 19072) :
    clipV N E (ix2 i k) = code (N (ix2 i k)) (Ideal.pow two (-E (ix2 i 0))) := by
  have e : broadcastInDim S8192x19072 ![0, 1] host.down (Host.powf (hostSplat host 0x40000000#32) (Host.negf E)) (ix2 i k)
      = Ideal.pow two (-E (ix2 i 0)) := hostDown_apply _ host.down i k
  rw [← e]
  unfold clipV
  generalize broadcastInDim S8192x19072 ![0, 1] host.down (Host.powf (hostSplat host 0x40000000#32) (Host.negf E)) = B
  rfl

variable (X : FVec Ideal S8192x19072 .bf16) (g : FVec Ideal S19072 .bf16)

/-- and both results. -/
theorem codes_host : clipV (hostNormed host X g) (hostExp host (hostAmax host (hostNormed host X g))) = codesR X g := by
  funext y
  obtain ⟨i, k, rfl⟩ : ∃ i k, y = ix2 i k := ⟨y 0, y 1, eq_ix2 y⟩
  rw [clipV_apply, hostExp_apply, hostAmax_apply, hostNormed_apply]
  unfold codesR rinv
  with_reducible rfl
theorem powV_apply (E : FVec Ideal S8192x1 .f32) (j : S8192x1.Idx) :
    Host.powf (hostSplat (M := 8192) (D := 19072) host 0x40000000#32) E j = Ideal.pow two (E j) := rfl
theorem scales_host : Host.powf (hostSplat host 0x40000000#32) (hostExp host (hostAmax host (hostNormed host X g))) = scalesR X g := by
  funext y
  obtain ⟨i, k, rfl⟩ : ∃ i k, y = ix2 i k := ⟨y 0, y 1, eq_ix2 y⟩
  obtain rfl : k = 0 := Subsingleton.elim _ _
  rw [powV_apply, hostExp_apply, hostAmax_apply]
  unfold scalesR rscale
  with_reducible rfl

variable (m : (ℓ : Loc nD τ sig) → Buf (Elt Ideal) ℓ) (ρ : Dev nD → PrngReg)

/-- The run with its results named and the arguments unchanged. -/
theorem run_value : θ_run defs (onTc (τ := τ) (main (F := Ideal))) ⟨m, fun _ => 0, ρ⟩ fun r => ∀ c : Dev nD,
      r.2.mem ((c.tc : Thread nD τ).loc main_v37_0) = codesR (m ((c.tc : Thread nD τ).loc main_arg0)) (m ((c.tc : Thread nD τ).loc main_arg1))
      ∧ r.2.mem ((c.tc : Thread nD τ).loc main_v37_1) = scalesR (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2.1.trans ?_, (h c).2.2⟩) (Cert.NormReferenceIdeal.Value.run m ρ)
  · rw [← codes_host]
    unfold clipV hostExp hostAmax hostNormed hostSplat
    simp only [id]
  · rw [← scales_host]
    unfold hostExp hostAmax hostNormed hostSplat
    simp only [id]

/-- The program ends with its arguments unchanged; it has no semaphore. -/
theorem frame : θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2.2, sem_eq_zero_of_no_sems (by decide) r.2⟩) (run_value m ρ)

end Cert.NormReferenceIdeal.Body

end
-- ==== Proof.Norm.Bound.lean ====
/-
  What the precondition says over the reals: each row's largest magnitude is in the range whose scale the kernel's fields
  hold.
-/
module

public import proofs.«01_k».proof.Pre_scale_in_range
public import proofs.«01_k».proof.Proof.Norm.Host

@[expose] public section

noncomputable section

namespace Cert.Norm

open Idealize.ShloMosaic Idealize.ShloMosaic.ValueIdx

/-- The precondition's shape relations hold. -/
theorem range_facts : Cert.Pre_scale_in_range.Facts where
  bitsLt_bf16_f32 := by decide
  reducesTo_S8192x19072_S8192_d1 := by decide
  h_S_ := by decide
  bcast_S8192_S8192x1_0 := by decide
  bcast_S_S8192x1 := by decide
  bcast_S8192x1_S8192x19072_0_1 := by decide
  bcast_S19072_S1x19072_1 := by decide
  bcast_S1x19072_S8192x19072_0_1 := by decide

theorem range_host : HostFacts 8192 19072 where
  wide := by decide
  rows := range_facts.reducesTo_S8192x19072_S8192_d1
  row := by decide
  unit := range_facts.h_S_
  col := range_facts.bcast_S8192_S8192x1_0
  splat := range_facts.bcast_S_S8192x1
  down := range_facts.bcast_S8192x1_S8192x19072_0_1
  line := range_facts.bcast_S19072_S1x19072_1
  across := range_facts.bcast_S1x19072_S8192x19072_0_1

theorem low_eq : Ideal.ofBits .f32 0x00400000#32 = (((2 : ℝ) ^ (-127 : ℤ) : ℝ) : EReal) := by
  simp [Ideal.ofBits, Ideal.ieee, -EReal.coe_mul]; norm_num
theorem high_eq : Ideal.ofBits .f32 0x7E800000#32 = (((2 : ℝ) ^ (126 : ℤ) : ℝ) : EReal) := by
  simp [Ideal.ofBits, Ideal.ieee, -EReal.coe_mul, -EReal.coe_pow]; norm_num

/-- The precondition's comparisons on a column of magnitudes, -/
def testV {M D : ℕ} (f : HostFacts M D) (A : FVec Ideal ⟨2, ![M, 1]⟩ .f32) : IVec ⟨2, ![M, 1]⟩ 1 :=
  ori (cmpf .oeq A (hostSplat f 0x00000000#32)) (andi (cmpf .oge A (hostSplat f 0x00400000#32)) (cmpf .olt A (hostSplat f 0x7E800000#32)))
theorem testV_apply {M D : ℕ} (f : HostFacts M D) (A : FVec Ideal ⟨2, ![M, 1]⟩ .f32) (j : (⟨2, ![M, 1]⟩ : Shape).Idx) :
    testV f A j = IntOp.ori (Ideal.cmp .oeq (A j) (Ideal.ofBits .f32 0#32)) (IntOp.andi (Ideal.cmp .oge (A j) (Ideal.ofBits .f32 0x00400000#32))
      (Ideal.cmp .olt (A j) (Ideal.ofBits .f32 0x7E800000#32))) := rfl

/-- read as the range, -/
theorem inRange_of_test (a : EReal) (h : IntOp.ori (Ideal.cmp .oeq a (Ideal.ofBits .f32 0#32))
    (IntOp.andi (Ideal.cmp .oge a (Ideal.ofBits .f32 0x00400000#32)) (Ideal.cmp .olt a (Ideal.ofBits .f32 0x7E800000#32))) = 1#1) :
    InRange a := by
  rw [Ideal.ofBits_zero_f32, low_eq, high_eq] at h
  unfold InRange
  by_contra hn
  push Not at hn
  obtain ⟨h0, h1⟩ := hn
  have e0 : Ideal.cmp .oeq a 0 = 0#1 := by simp [Ideal.cmp, h0]
  rw [e0] at h
  by_cases hl : (((2 : ℝ) ^ (-127 : ℤ) : ℝ) : EReal) ≤ a
  · have e1 : Ideal.cmp .olt a (((2 : ℝ) ^ (126 : ℤ) : ℝ) : EReal) = 0#1 := by
      unfold Ideal.cmp
      simp only [not_lt.2 (h1 hl)]
      rfl
    rw [e1] at h
    generalize Ideal.cmp .oge a _ = b at h
    revert b; decide
  · have e1 : Ideal.cmp .oge a (((2 : ℝ) ^ (-127 : ℤ) : ℝ) : EReal) = 0#1 := by
      unfold Ideal.cmp
      simp only [hl]
      rfl
    rw [e1] at h
    generalize Ideal.cmp .olt a _ = b at h
    revert b; decide

/-- the precondition's function, -/
theorem fn_eq (X : FVec Ideal Cert.Pre_scale_in_range.S8192x19072 .bf16) (g : FVec Ideal Cert.Pre_scale_in_range.S19072 .bf16) :
    (haveI := range_facts; Cert.Pre_scale_in_range.fn (F := Ideal) X g)
      = testV range_host (hostAmax range_host (hostNormed range_host X g)) := by
  unfold Cert.Pre_scale_in_range.fn Cert.Pre_scale_in_range.fn_part1 testV hostAmax hostNormed hostSplat
  with_reducible rfl

/-- and what it says of every row. -/
theorem rows_inRange (X : FVec Ideal Cert.Pre_scale_in_range.S8192x19072 .bf16) (g : FVec Ideal Cert.Pre_scale_in_range.S19072 .bf16)
    (h : (haveI := range_facts; Cert.Pre_scale_in_range.fn (F := Ideal) X g) = fun _ => 1#1) (i : Fin 8192) :
    InRange (amax (rowOf X i) (listed g)) := by
  have e := (congrFun (fn_eq X g) (ix2 i 0)).symm.trans (congrFun h (ix2 i 0))
  rw [testV_apply, hostAmax_apply] at e
  exact inRange_of_test _ e

end Cert.Norm

end
-- ==== Proof.lean ====
/-
  The certificate's claim, assembled. For the projection call, and again for the norm call: the frames of the kernel (at the
  bits and over the reals) and of the reference, and the equality of their results over the reals. Both projections are
  `Cert.Project.result` of the arguments; the norm's codes and scales are `Cert.Norm.codesK` and `scalesK` of the arguments,
  which are the reference's `codesR` and `scalesR` when every row's scale is in range.
-/
module

public import proofs.«01_k».proof.Defs
public import proofs.«01_k».proof.Proof.Project.BitsRun
public import proofs.«01_k».proof.Proof.Project.IdealFinal
public import proofs.«01_k».proof.Proof.Project.ReferenceFinal
public import proofs.«01_k».proof.Proof.Gen.Norm.Frame
public import proofs.«01_k».proof.Proof.Norm.IdealFinal
public import proofs.«01_k».proof.Proof.Norm.ReferenceFinal
public import proofs.«01_k».proof.Proof.Norm.Bound

@[expose] public section

noncomputable section

namespace Cert.Proof

open Idealize.ShloMosaic Idealize.SL.Sem

theorem quiescent_kernel : Cert.quiescent_Kernel (hKernel := Cert.Kernel.Gen.facts) :=
  fun m ρ _ => Cert.Kernel.Body.frame m ρ

theorem quiescent_kernelIdeal : Cert.quiescent_KernelIdeal (hKernelIdeal := Cert.KernelIdeal.Gen.facts) := fun m ρ _ =>
  (θ_run (Cert.KernelIdeal.defs (F := Ideal)) _ _).mono (fun _ h => ⟨fun c => (h.1 c).2, h.2⟩) (Cert.KernelIdeal.Body.run_value m ρ)

theorem quiescent_referenceIdeal : Cert.quiescent_ReferenceIdeal (hReferenceIdeal := Cert.ReferenceIdeal.Gen.facts) :=
  fun m ρ _ => Cert.ReferenceIdeal.Gen.frame m ρ

/-- Over the reals the kernel and the reference end with equal results. -/
theorem algebraic : Cert.algebraic_KernelIdeal_ReferenceIdeal (hKernelIdeal := Cert.KernelIdeal.Gen.facts)
    (hReferenceIdeal := Cert.ReferenceIdeal.Gen.facts) := fun m g m' g' _ hm => by
  refine ⟨_, (θ_run (Cert.KernelIdeal.defs (F := Ideal)) _ _).mono (fun _ h => h.1) (Cert.KernelIdeal.Body.run_value m g), ?_⟩
  refine (θ_run (Cert.ReferenceIdeal.defs (F := Ideal)) _ _).mono (fun r h c => ⟨?_, (h c).2⟩) (Cert.ReferenceIdeal.Value.run_blocks m' g')
  obtain ⟨e0, e1, e2, e3, e4⟩ := hm c
  refine (h c).1.trans ((Cert.ReferenceIdeal.Body.final m' c).trans ?_)
  rw [e0, e1, e2, e3, e4]

/-- The same of the norm call, for rows whose scale is in range. -/
theorem algebraic_norm : Cert.algebraic_NormIdeal_NormReferenceIdeal_pre_scale_in_range (hNormIdeal := Cert.NormIdeal.Gen.facts)
    (hNormReferenceIdeal := Cert.NormReferenceIdeal.Gen.facts) (hPre_scale_in_range := Cert.Norm.range_facts) :=
  fun m g m' g' hpre hm => by
  refine ⟨_, _, Cert.NormIdeal.Body.run_value m g, ?_⟩
  refine (θ_run (Cert.NormReferenceIdeal.defs (F := Ideal)) _ _).mono (fun r h c => ⟨?_, ?_, (h c).2.2⟩)
    (Cert.NormReferenceIdeal.Body.run_value m' g')
  · obtain ⟨e0, e1⟩ := hm c
    refine (h c).1.trans ?_
    rw [e0, e1]
    exact (Cert.Norm.codes_eq _ _ _ (Cert.Norm.rows_inRange _ _ (hpre c))).symm
  · obtain ⟨e0, e1⟩ := hm c
    refine (h c).2.1.trans ?_
    rw [e0, e1]
    exact (Cert.Norm.scales_eq _ _ _ (Cert.Norm.rows_inRange _ _ (hpre c))).symm

theorem claim : Cert.Claim :=
  ⟨Cert.Kernel.Gen.facts, Cert.KernelIdeal.Gen.facts, Cert.ReferenceIdeal.Gen.facts, Cert.Norm.Gen.facts,
    Cert.NormIdeal.Gen.facts, Cert.NormReferenceIdeal.Gen.facts, Cert.Norm.range_facts,
    quiescent_kernel, quiescent_kernelIdeal, quiescent_referenceIdeal,
    fun m ρ _ => Cert.Norm.Gen.frame m ρ, fun m ρ _ => Cert.NormIdeal.Gen.frame m ρ, fun m ρ _ => Cert.NormIdeal.Gen.frame m ρ,
    fun m ρ _ => Cert.NormReferenceIdeal.Body.frame m ρ, fun m ρ _ => Cert.NormReferenceIdeal.Body.frame m ρ,
    trivial, algebraic, trivial, algebraic_norm⟩

end Cert.Proof

end
